-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 16384]⟩ (Layout.meshBlock [2, 4, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x512 .bf16) (main_arg1 : FVec F S512x4096 .bf16) (main_arg2 : IVec S256 32) : IVec S_ 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .bf16 := Host.absf main_arg1
  let main_cst_0 : FVec F S_ .bf16 := constant S_ .bf16 0x7F80#16
  let main_v5 : FVec F S512x4096 .bf16 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_c_4 : IVec S_ 32 := constantI S_ 32 16384#32
  let main_v13 : IVec S256 32 := broadcastInDim S256 ![] bcast_S_S256 main_c_4
  let main_v14 : IVec S256 1 := cmpi .slt main_arg2 main_v13
  let main_c_5 : IVec S_ 1 := constantI S_ 1 1#1
  let main_v15 : IVec S_ 1 := (fun x v => Host.reduce IntOp.andi x v reducesTo_S256_S_d0 h_S_) main_v14 main_c_5
  fn_part1 (F := F) main_v12 main_v15
-- ==== Pre_in_range_ReferenceIdeal.lean ====
abbrev S256x512 : Shape := ⟨2, ![256, 512]⟩
abbrev S512x16384 : Shape := ⟨2, ![512, 16384]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x16384 : S_.BroadcastsInDim S512x16384 (![] : Fin 0 → Fin S512x16384.rank)
  reducesTo_S512x16384_S_d0_1 : S512x16384.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x512 .bf16) (main_arg1 : FVec F S512x16384 .bf16) (main_arg2 : IVec S256 32) : IVec S_ 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x16384 .bf16 := Host.absf main_arg1
  let main_cst_0 : FVec F S_ .bf16 := constant S_ .bf16 0x7F80#16
  let main_v5 : FVec F S512x16384 .bf16 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_c_4 : IVec S_ 32 := constantI S_ 32 16384#32
  let main_v13 : IVec S256 32 := broadcastInDim S256 ![] bcast_S_S256 main_c_4
  let main_v14 : IVec S256 1 := cmpi .slt main_arg2 main_v13
  let main_c_5 : IVec S_ 1 := constantI S_ 1 1#1
  let main_v15 : IVec S_ 1 := (fun x v => Host.reduce IntOp.andi x v reducesTo_S256_S_d0 h_S_) main_v14 main_c_5
  fn_part1 (F := F) main_v12 main_v15
-- ==== Kernel.lean ====
abbrev S256x512 : Shape := ⟨2, ![256, 512]⟩
abbrev S512x4096 : Shape := ⟨2, ![512, 4096]⟩
abbrev S256 : Shape := ⟨1, ![256]⟩
abbrev S256x1 : Shape := ⟨2, ![256, 1]⟩
abbrev S4x128 : Shape := ⟨2, ![4, 128]⟩
abbrev S3x4x128 : Shape := ⟨3, ![3, 4, 128]⟩
abbrev S3 : Shape := ⟨1, ![3]⟩
abbrev S_ : Shape := ⟨0, ![]⟩
abbrev S256x4096 : Shape := ⟨2, ![256, 4096]⟩
abbrev S2x128 : Shape := ⟨2, ![2, 128]⟩
abbrev S1 : Shape := ⟨1, ![1]⟩
abbrev S1x4x128 : Shape := ⟨3, ![1, 4, 128]⟩

abbrev nBuf : Space → Nat
  | .hbm => 5
  | .vmem => 7
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256, .i32⟩
  | .hbm, ⟨3, _⟩ => ⟨S256x1, .i32⟩
  | .hbm, ⟨4, _⟩ => ⟨S256, .f32⟩
  | .local _ .vmem, ⟨0, _⟩ => ⟨S256x512, .bf16⟩
  | .local _ .vmem, ⟨1, _⟩ => ⟨S512x4096, .bf16⟩
  | .local _ .vmem, ⟨2, _⟩ => ⟨S256x1, .i32⟩
  | .local _ .vmem, ⟨3, _⟩ => ⟨S256, .f32⟩
  | .local _ .vmem, ⟨4, _⟩ => ⟨S256x512, .bf16⟩
  | .local _ .vmem, ⟨5, _⟩ => ⟨S4x128, .f32⟩
  | .local _ .vmem, ⟨6, _⟩ => ⟨S3x4x128, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_2 : BitVec 32 := 0#32
  let v11 : BitVec 1 := Scalar.cmpi .ne v10 c0_i32_2
  v11

def k0_dev1 (d0 : Dev nD) : Nat :=
  let c0_i32_30 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_29 : BitVec 32 := 16#32
  let v58 : BitVec 32 := Scalar.muli v2 c16_i32_29
  let v59 : BitVec 32 := Scalar.addi c0_i32_30 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v47 : BitVec 32 := Scalar.addi v5 c1_i32_21
  let c4_i32_22 : BitVec 32 := 4#32
  let c0_i32_23 : BitVec 32 := 0#32
  let v48 : BitVec 1 := Scalar.cmpi .eq c4_i32_22 c0_i32_23
  let c1_i32_24 : BitVec 32 := 1#32
  let v49 : BitVec 32 := Scalar.select v48 c1_i32_24 c4_i32_22
  let v50 : BitVec 32 := Scalar.remsi v47 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c4_i32_31 : BitVec 32 := 4#32
  let v60 : BitVec 32 := Scalar.muli v57 c4_i32_31
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v62 : BitVec 32 := Scalar.muli v8 c1_i32_32
  let v63 : BitVec 32 := Scalar.addi v61 v62
  v63.toNat
def k0_dev2 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v75 : BitVec 32 := Scalar.muli v2 c16_i32_41
  let v76 : BitVec 32 := Scalar.addi c0_i32_42 v75
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_33 : BitVec 32 := 2#32
  let v64 : BitVec 32 := Scalar.addi v5 c2_i32_33
  let c4_i32_34 : BitVec 32 := 4#32
  let c0_i32_35 : BitVec 32 := 0#32
  let v65 : BitVec 1 := Scalar.cmpi .eq c4_i32_34 c0_i32_35
  let c1_i32_36 : BitVec 32 := 1#32
  let v66 : BitVec 32 := Scalar.select v65 c1_i32_36 c4_i32_34
  let v67 : BitVec 32 := Scalar.remsi v64 v66
  let c0_i32_38 : BitVec 32 := 0#32
  let v69 : BitVec 1 := Scalar.cmpi .slt v67 c0_i32_38
  let c0_i32_39 : BitVec 32 := 0#32
  let v70 : BitVec 1 := Scalar.cmpi .slt v66 c0_i32_39
  let v71 : BitVec 1 := Scalar.xori v69 v70
  let c0_i32_37 : BitVec 32 := 0#32
  let v68 : BitVec 1 := Scalar.cmpi .ne v67 c0_i32_37
  let v72 : BitVec 1 := Scalar.andi v71 v68
  let v73 : BitVec 32 := Scalar.addi v67 v66
  let v74 : BitVec 32 := Scalar.select v72 v73 v67
  let c4_i32_43 : BitVec 32 := 4#32
  let v77 : BitVec 32 := Scalar.muli v74 c4_i32_43
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v79 : BitVec 32 := Scalar.muli v8 c1_i32_44
  let v80 : BitVec 32 := Scalar.addi v78 v79
  v80.toNat
def k0_dev3 (d0 : Dev nD) : Nat :=
  let c0_i32_53 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_52 : BitVec 32 := 16#32
  let v92 : BitVec 32 := Scalar.muli v2 c16_i32_52
  let v93 : BitVec 32 := Scalar.addi c0_i32_53 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v81 : BitVec 32 := Scalar.addi v5 c3_i32
  let c4_i32_45 : BitVec 32 := 4#32
  let c0_i32_46 : BitVec 32 := 0#32
  let v82 : BitVec 1 := Scalar.cmpi .eq c4_i32_45 c0_i32_46
  let c1_i32_47 : BitVec 32 := 1#32
  let v83 : BitVec 32 := Scalar.select v82 c1_i32_47 c4_i32_45
  let v84 : BitVec 32 := Scalar.remsi v81 v83
  let c0_i32_49 : BitVec 32 := 0#32
  let v86 : BitVec 1 := Scalar.cmpi .slt v84 c0_i32_49
  let c0_i32_50 : BitVec 32 := 0#32
  let v87 : BitVec 1 := Scalar.cmpi .slt v83 c0_i32_50
  let v88 : BitVec 1 := Scalar.xori v86 v87
  let c0_i32_48 : BitVec 32 := 0#32
  let v85 : BitVec 1 := Scalar.cmpi .ne v84 c0_i32_48
  let v89 : BitVec 1 := Scalar.andi v88 v85
  let v90 : BitVec 32 := Scalar.addi v84 v83
  let v91 : BitVec 32 := Scalar.select v89 v90 v84
  let c4_i32_54 : BitVec 32 := 4#32
  let v94 : BitVec 32 := Scalar.muli v91 c4_i32_54
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v96 : BitVec 32 := Scalar.muli v8 c1_i32_55
  let v97 : BitVec 32 := Scalar.addi v95 v96
  v97.toNat
def k0_cond2 (i : grid0.Coords) : BitVec 1 :=
  let arg0 : BitVec 32 := BitVec.ofNat 32 (i 0).val
  let c0_i32_19 : BitVec 32 := 0#32
  let v43 : BitVec 1 := Scalar.cmpi .eq arg0 c0_i32_19
  let v44 : BitVec 32 := Scalar.extui v43
  let c0_i32_20 : BitVec 32 := 0#32
  let v45 : BitVec 1 := Scalar.cmpi .ne v44 c0_i32_20
  v45

def k0_dev4 (d0 : Dev nD) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v58 : BitVec 32 := Scalar.muli v2 c16_i32_31
  let v59 : BitVec 32 := Scalar.addi c0_i32_32 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v47 : BitVec 32 := Scalar.addi v5 c1_i32_21
  let c4_i32_22 : BitVec 32 := 4#32
  let c0_i32_23 : BitVec 32 := 0#32
  let v48 : BitVec 1 := Scalar.cmpi .eq c4_i32_22 c0_i32_23
  let c1_i32_24 : BitVec 32 := 1#32
  let v49 : BitVec 32 := Scalar.select v48 c1_i32_24 c4_i32_22
  let v50 : BitVec 32 := Scalar.remsi v47 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c4_i32_33 : BitVec 32 := 4#32
  let v60 : BitVec 32 := Scalar.muli v57 c4_i32_33
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v62 : BitVec 32 := Scalar.muli v8 c1_i32_34
  let v63 : BitVec 32 := Scalar.addi v61 v62
  v63.toNat
def k0_dev5 (d0 : Dev nD) : Nat :=
  let c0_i32_48 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v81 : BitVec 32 := Scalar.muli v2 c16_i32_47
  let v82 : BitVec 32 := Scalar.addi c0_i32_48 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_37 : BitVec 32 := 2#32
  let v70 : BitVec 32 := Scalar.addi v5 c2_i32_37
  let c4_i32_38 : BitVec 32 := 4#32
  let c0_i32_39 : BitVec 32 := 0#32
  let v71 : BitVec 1 := Scalar.cmpi .eq c4_i32_38 c0_i32_39
  let c1_i32_40 : BitVec 32 := 1#32
  let v72 : BitVec 32 := Scalar.select v71 c1_i32_40 c4_i32_38
  let v73 : BitVec 32 := Scalar.remsi v70 v72
  let c0_i32_42 : BitVec 32 := 0#32
  let v75 : BitVec 1 := Scalar.cmpi .slt v73 c0_i32_42
  let c0_i32_43 : BitVec 32 := 0#32
  let v76 : BitVec 1 := Scalar.cmpi .slt v72 c0_i32_43
  let v77 : BitVec 1 := Scalar.xori v75 v76
  let c0_i32_41 : BitVec 32 := 0#32
  let v74 : BitVec 1 := Scalar.cmpi .ne v73 c0_i32_41
  let v78 : BitVec 1 := Scalar.andi v77 v74
  let v79 : BitVec 32 := Scalar.addi v73 v72
  let v80 : BitVec 32 := Scalar.select v78 v79 v73
  let c4_i32_49 : BitVec 32 := 4#32
  let v83 : BitVec 32 := Scalar.muli v80 c4_i32_49
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v85 : BitVec 32 := Scalar.muli v8 c1_i32_50
  let v86 : BitVec 32 := Scalar.addi v84 v85
  v86.toNat
def k0_dev6 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v104 : BitVec 32 := Scalar.muli v2 c16_i32_63
  let v105 : BitVec 32 := Scalar.addi c0_i32_64 v104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_53 : BitVec 32 := 3#32
  let v93 : BitVec 32 := Scalar.addi v5 c3_i32_53
  let c4_i32_54 : BitVec 32 := 4#32
  let c0_i32_55 : BitVec 32 := 0#32
  let v94 : BitVec 1 := Scalar.cmpi .eq c4_i32_54 c0_i32_55
  let c1_i32_56 : BitVec 32 := 1#32
  let v95 : BitVec 32 := Scalar.select v94 c1_i32_56 c4_i32_54
  let v96 : BitVec 32 := Scalar.remsi v93 v95
  let c0_i32_58 : BitVec 32 := 0#32
  let v98 : BitVec 1 := Scalar.cmpi .slt v96 c0_i32_58
  let c0_i32_59 : BitVec 32 := 0#32
  let v99 : BitVec 1 := Scalar.cmpi .slt v95 c0_i32_59
  let v100 : BitVec 1 := Scalar.xori v98 v99
  let c0_i32_57 : BitVec 32 := 0#32
  let v97 : BitVec 1 := Scalar.cmpi .ne v96 c0_i32_57
  let v101 : BitVec 1 := Scalar.andi v100 v97
  let v102 : BitVec 32 := Scalar.addi v96 v95
  let v103 : BitVec 32 := Scalar.select v101 v102 v96
  let c4_i32_65 : BitVec 32 := 4#32
  let v106 : BitVec 32 := Scalar.muli v103 c4_i32_65
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v108 : BitVec 32 := Scalar.muli v8 c1_i32_66
  let v109 : BitVec 32 := Scalar.addi v107 v108
  v109.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S256x512 : Shape := ⟨2, ![256, 512]⟩
abbrev S512x16384 : Shape := ⟨2, ![512, 16384]⟩
abbrev S256 : Shape := ⟨1, ![256]⟩
abbrev S256x16384 : Shape := ⟨2, ![256, 16384]⟩
abbrev S_ : Shape := ⟨0, ![]⟩
abbrev S256x1 : Shape := ⟨2, ![256, 1]⟩
abbrev S256x2 : Shape := ⟨2, ![256, 2]⟩

abbrev nBuf : Space → Nat
  | .hbm => 38
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x16384, .bf16⟩
  | .hbm, ⟨2, _⟩ => ⟨S256, .i32⟩
  | .hbm, ⟨3, _⟩ => ⟨S256x512, .f32⟩
  | .hbm, ⟨4, _⟩ => ⟨S512x16384, .f32⟩
  | .hbm, ⟨5, _⟩ => ⟨S256x16384, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x16384, .f32⟩
  | .hbm, ⟨10, _⟩ => ⟨S256x16384, .f32⟩
  | .hbm, ⟨11, _⟩ => ⟨S256x16384, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256, .f32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256x1, .i32⟩
  | .hbm, ⟨34, _⟩ => ⟨S256x1, .i32⟩
  | .hbm, ⟨35, _⟩ => ⟨S256x2, .i32⟩
  | .hbm, ⟨36, _⟩ => ⟨S256, .f32⟩
  | .hbm, ⟨37, _⟩ => ⟨S256, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Protocol.lean ====
/-
# How the devices of one `y` ring talk

Every device holds a 4×128 table of partial results (its row sums of exponentials and its selected logits). It sends
the table to the three other devices of its `y` line and receives theirs. This module names the devices, buffers and
semaphores that take part, and states the protocol as a schedule of duties:

* device `c` signals the barrier of `peer c d` for `d = 0, 1, 2`, and hands over with the signal the receive slot that
  the signalled device will write;
* it waits for its own three barrier units, and so owns one slot on each of the three other devices;
* it copies its table into them: copy `d` reads the table at the share `third d` and completes on the send semaphore `d`
  of `c` and on the receive semaphore `d` of `peer c d`.

The tables are a parameter `σ` (one table per device), so nothing here depends on what the kernel computes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.Launch
public import Idealize.ShloMosaic.Lib.Ring
public import Idealize.ShloMosaic.Lib.Tactic

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The devices -/

set_option backward.proofsInPublic true in
/-- The device `d + 1` steps further along the `y` axis (device `16 x + 4 y + z` sits at `(x, y, z)`). -/
def peer (c : Dev nD) (d : Fin 3) : Dev nD :=
  ⟨c.val / 16 * 16 + (c.val / 4 + d.val + 1) % 4 * 4 + c.val % 4, by have := c.isLt; have : nD = 32 := rfl; omega⟩

/-- Going `d + 1` steps and then `3 - d` steps comes back. -/
theorem peer_back (c : Dev nD) (d : Fin 3) : peer (peer c d) d.rev = c := by revert c d; decide +kernel

/-- Going `3 - d` steps and then `d + 1` steps comes back. -/
theorem peer_forth (c : Dev nD) (d : Fin 3) : peer (peer c d.rev) d = c := by revert c d; decide +kernel

/-- Stepping `d + 1` along `y` is a permutation of the devices. -/
def ring (d : Fin 3) : Dev nD ≃ Dev nD := ⟨fun c => peer c d, fun c => peer c d.rev, fun c => peer_back c d, fun c => peer_forth c d⟩

/-- The device numbers the kernel computes for its three signals. -/
theorem dev1_eq (c : Dev nD) : k0_dev1 c = (peer c 0).val := by revert c; decide +kernel
theorem dev2_eq (c : Dev nD) : k0_dev2 c = (peer c 1).val := by revert c; decide +kernel
theorem dev3_eq (c : Dev nD) : k0_dev3 c = (peer c 2).val := by revert c; decide +kernel
/-- The device numbers the kernel computes for its three copies. -/
theorem dev4_eq (c : Dev nD) : k0_dev4 c = (peer c 0).val := by revert c; decide +kernel
theorem dev5_eq (c : Dev nD) : k0_dev5 c = (peer c 1).val := by revert c; decide +kernel
theorem dev6_eq (c : Dev nD) : k0_dev6 c = (peer c 2).val := by revert c; decide +kernel

/-! ## The resource algebra: the pipeline's copy, and this protocol's with duties named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and semaphores -/

/-- The table of partial results, and the buffer with the three receive slots. -/
abbrev tabM : Memref sig .tc .vmem S4x128 .f32 := Memref.whole cc0_scratch1
abbrev slotsM : Memref sig .tc .vmem S3x4x128 .f32 := Memref.whole cc0_scratch2

/-- What a table holds. -/
abbrev Table (F : FTy → Type) : Type := (cc0_scratch1 : Ref sig .tc).ty.Contents (Elt F)

theorem slot_inb (d : Fin 3) : ∀ a, (![d.val, 0, 0] : Fin 3 → Nat) a + S1x4x128.size a ≤ S3x4x128.size a := by
  fin_cases d <;> decide
theorem sem_inb (d : Fin 3) : ∀ a, (![d.val] : Fin 1 → Nat) a + S1.size a ≤ S3.size a := by
  fin_cases d <;> decide

/-- Where slot `d` sits in the receive buffer. -/
abbrev slotR (d : Fin 3) : Rect S3x4x128 := Rect.unit (s := S3x4x128) ![d.val, 0, 0] S1x4x128.size (slot_inb d)
/-- Slot `d` as a 4×128 table. -/
abbrev slotM (d : Fin 3) : Memref sig .tc .vmem S4x128 .f32 :=
  (slotsM.slice (slotR d) (fun _ => rfl)).squeeze S4x128 squeezes_S1x4x128_S4x128

abbrev barS : Sem sig := (SemArray.scalar (sig.barrier 0 rfl) : Sems sig S_).sem
abbrev sendS (d : Fin 3) : DmaSem sig :=
  ((cc0_scratch3.slice (Rect.unit (s := S3) ![d.val] S1.size (sem_inb d))).squeeze S_ squeezes_S1_S_).sem
abbrev recvS (d : Fin 3) : DmaSem sig :=
  ((cc0_scratch4.slice (Rect.unit (s := S3) ![d.val] S1.size (sem_inb d))).squeeze S_ squeezes_S1_S_).sem

abbrev barCell (c : Dev nD) : GSem nD τ sig := ((c : Thread nD τ), .reg barS)
abbrev sendCell (c : Dev nD) (d : Fin 3) : GSem nD τ sig := ((c : Thread nD τ), .dma (sendS d))
abbrev recvCell (c : Dev nD) (d : Fin 3) : GSem nD τ sig := ((c : Thread nD τ), .dma (recvS d))

/-- The bytes one copied table counts on a semaphore. -/
abbrev N : ℕ := tabM.view.dmaCredit
theorem N_pos : 0 < N := View.dmaCredit_pos _ (by decide)

/-! ## What changes hands -/

/-- Slot `d` of device `c`, its elements those of `f`. -/
def slotPts (c : Dev nD) (d : Fin 3) (f : Buf (Elt F) ((c : Thread nD τ).loc cc0_scratch2)) : sProp 𝕄 :=
  ((c : Thread nD τ).loc cc0_scratch2) ↦[(slotM d).view.set]{fullShare} f

/-- The share of the table that copy `d` reads. -/
def third : Fin 3 → PosShare TreeShare :=
  fun | 0 => fullShare.left | 1 => fullShare.right.left | 2 => fullShare.right.right

/-- The table of device `c` at copy `d`'s share. -/
def tabPts (σ : Dev nD → Table F) (c : Dev nD) (d : Fin 3) : sProp 𝕄 :=
  ((c : Thread nD τ).loc cc0_scratch1) ↦[tabM.view.set]{third d} σ c

/-- The whole table is its three shares. -/
theorem tab_shares (c : Dev nD) (f : Buf (Elt F) ((c : Thread nD τ).loc cc0_scratch1)) :
    (((c : Thread nD τ).loc cc0_scratch1) ↦[tabM.view.set]{fullShare} f : sProp 𝕄)
      ⊣⊢ iprop((((c : Thread nD τ).loc cc0_scratch1) ↦[tabM.view.set]{third 0} f)
        ∗ (((c : Thread nD τ).loc cc0_scratch1) ↦[tabM.view.set]{third 1} f) ∗ ((c : Thread nD τ).loc cc0_scratch1) ↦[tabM.view.set]{third 2} f) := by
  have h1 := pointsTo_share (Ix := Unit) (Val := Elt F) (Name := ℕ) (U := UU) (Lvl := ℕ) (ℓ := (c : Thread nD τ).loc cc0_scratch1) (I := tabM.view.set)
    (f := f) (PosShare.mem_left_op_right fullShare)
  have h2 := pointsTo_share (Ix := Unit) (Val := Elt F) (Name := ℕ) (U := UU) (Lvl := ℕ) (ℓ := (c : Thread nD τ).loc cc0_scratch1) (I := tabM.view.set)
    (f := f) (PosShare.mem_left_op_right fullShare.right)
  exact ⟨h1.1.trans (sep_mono .rfl h2.1), (sep_mono .rfl h2.2).trans h1.2⟩

/-- With a barrier unit `c` gets slot `d` of `peer c d`, and that this device has opened its receive semaphore `d`. -/
def barPay (c : Dev nD) (d : Fin 3) : sProp 𝕄 :=
  iprop((∃ f, slotPts (F := F) (peer c d) d f) ∗ reached ER (recvCell (peer c d) d) 0)
/-- When copy `d` has arrived, slot `d` of `c` holds the table of the device `d + 1` steps before it. -/
def recvPay (σ : Dev nD → Table F) (c : Dev nD) (d : Fin 3) : sProp 𝕄 :=
  iprop(∃ f, ⌜(slotM d).view.read (Elt F) f = σ (peer c d.rev)⌝ ∗ slotPts c d f)

instance slotPts_storable (c : Dev nD) (d : Fin 3) (f) : BI.Storable (upEmb : UEmb _ 𝕄) (slotPts (F := F) c d f) := by
  unfold slotPts; infer_instance
instance tabPts_storable (σ : Dev nD → Table F) (c : Dev nD) (d : Fin 3) : BI.Storable (upEmb : UEmb _ 𝕄) (tabPts (F := F) σ c d) := by
  unfold tabPts; infer_instance
instance barPay_storable (c : Dev nD) (d : Fin 3) : BI.Storable (upEmb : UEmb _ 𝕄) (barPay (F := F) c d) := by
  unfold barPay; infer_instance
instance recvPay_storable (σ : Dev nD → Table F) (c : Dev nD) (d : Fin 3) : BI.Storable (upEmb : UEmb _ 𝕄) (recvPay (F := F) σ c d) := by
  unfold recvPay; infer_instance

/-! ## The schedule -/

/-- What a semaphore is for. -/
inductive Role where
  | bar | send (d : Fin 3) | recv (d : Fin 3) | none
  deriving DecidableEq

/-- The role of each semaphore of a core. -/
def role : SemLoc sig → Role
  | .reg _ => .bar
  | .dma q => if q = sendS 0 then .send 0 else if q = sendS 1 then .send 1 else if q = sendS 2 then .send 2
      else if q = recvS 0 then .recv 0 else if q = recvS 1 then .recv 1 else if q = recvS 2 then .recv 2 else .none

theorem role_bar (q : Sem sig) : role (.reg q) = .bar := rfl
theorem role_send (d : Fin 3) : role (.dma (sendS d)) = .send d := by revert d; decide +kernel
theorem role_recv (d : Fin 3) : role (.dma (recvS d)) = .recv d := by revert d; decide +kernel

/-- One round. A barrier has three duties of one unit, the other six semaphores one duty of a table's bytes. -/
def rd (σ : Dev nD → Table F) : Rounds.Schedule (GSem nD τ sig) (Fin 3) 𝕄 where
  duties g r := if r = 0 ∧ g.1.2 = .tc then
      (match role g.2 with | .bar => Finset.univ | .send _ => {0} | .recv _ => {0} | .none => ∅) else ∅
  unitless _ := False
  amount g _ _ := match role g.2 with | .bar => 1 | _ => N
  payload g _ e := match role g.2 with
    | .bar => barPay g.1.1 e | .send d => tabPts σ g.1.1 d | .recv d => recvPay σ g.1.1 d | .none => iprop(emp)
  amount_pos g _ _ _ := by
    cases role g.2 <;> first | exact Nat.one_pos | exact N_pos

instance rd_payload_storable (σ : Dev nD → Table F) (g : GSem nD τ sig) (r : ℕ) (e : Fin 3) :
    BI.Storable (upEmb : UEmb _ 𝕄) ((rd (F := F) σ).payload g r e) := by
  show BI.Storable upEmb (match role g.2 with
    | .bar => barPay g.1.1 e | .send d => tabPts σ g.1.1 d | .recv d => recvPay σ g.1.1 d | .none => iprop(emp))
  split <;> infer_instance

section Tables
variable (σ : Dev nD → Table F) (c : Dev nD) (d e : Fin 3)

theorem duties_bar : (rd σ).duties (barCell c) 0 = Finset.univ := by dsimp only [rd]; rw [if_pos ⟨rfl, rfl⟩, role_bar]
theorem duties_send : (rd σ).duties (sendCell c d) 0 = {0} := by dsimp only [rd]; rw [if_pos ⟨rfl, rfl⟩, role_send]
theorem duties_recv : (rd σ).duties (recvCell c d) 0 = {0} := by dsimp only [rd]; rw [if_pos ⟨rfl, rfl⟩, role_recv]
theorem duties_later (g : GSem nD τ sig) : ∀ r, 1 ≤ r → (rd σ).duties g r = ∅ :=
  fun r hr => by dsimp only [rd]; rw [if_neg fun h => by omega]

theorem amount_bar : (rd σ).amount (barCell c) 0 e = 1 := by dsimp only [rd]; rw [role_bar]
theorem amount_send : (rd σ).amount (sendCell c d) 0 e = N := by dsimp only [rd]; rw [role_send]
theorem amount_recv : (rd σ).amount (recvCell c d) 0 e = N := by dsimp only [rd]; rw [role_recv]

theorem payload_bar : (rd σ).payload (barCell c) 0 e = barPay c e := by dsimp only [rd]; rw [role_bar]
theorem payload_send : (rd σ).payload (sendCell c d) 0 e = tabPts σ c d := by dsimp only [rd]; rw [role_send]
theorem payload_recv : (rd σ).payload (recvCell c d) 0 e = recvPay σ c d := by dsimp only [rd]; rw [role_recv]

theorem expect_bar : (rd σ).expect (barCell c) 0 = 3 := by
  unfold Schedule.expect Schedule.amountOf
  rw [duties_bar, Finset.sum_congr rfl fun e _ => amount_bar σ c e, Finset.sum_const, Finset.card_univ, Fintype.card_fin, smul_eq_mul]
theorem expect_send : (rd σ).expect (sendCell c d) 0 = N := by
  unfold Schedule.expect Schedule.amountOf; rw [duties_send, Finset.sum_singleton, amount_send]
theorem expect_recv : (rd σ).expect (recvCell c d) 0 = N := by
  unfold Schedule.expect Schedule.amountOf; rw [duties_recv, Finset.sum_singleton, amount_recv]

/-- The three payments a barrier collects. -/
theorem rest_bar : bigSep ((rd σ).duties (barCell c) 0 \ ∅) (fun e => (rd σ).payload (barCell c) 0 e)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((rd σ).duties (sendCell c d) 0 \ ∅) (fun e => (rd σ).payload (sendCell c d) 0 e) = tabPts σ c d := by
  rw [Finset.sdiff_empty, duties_send, bigSep_singleton, payload_send]
theorem rest_recv : bigSep ((rd σ).duties (recvCell c d) 0 \ ∅) (fun e => (rd σ).payload (recvCell c d) 0 e) = recvPay σ c d := by
  rw [Finset.sdiff_empty, duties_recv, bigSep_singleton, payload_recv]

end Tables

/-! ## What is owed, and in which order semaphores may be waited for -/

/-- What a device owes from the start: a table's bytes on the receive semaphore of each copy it makes (`owedCopies`), and a
    unit on each other device's barrier; summed in the order in which the kernel pays, last summand first. -/
def owedCopies (c : Dev nD) : CellTallies nD τ sig Unit :=
  0 + tallyAt (recvCell (peer c 2) 2) () N + tallyAt (recvCell (peer c 1) 1) () N + tallyAt (recvCell (peer c 0) 0) () N
def owed (c : Dev nD) : CellTallies nD τ sig Unit :=
  owedCopies c + tallyAt (barCell (peer c 2)) () 1 + tallyAt (barCell (peer c 1)) () 1 + tallyAt (barCell (peer c 0)) () 1

def L (g : GSem nD τ sig) : Finset Unit := if g.1.2 = .tc then {()} else ∅
/-- Barriers come before receive semaphores; nothing owed stands below them. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_bar (c : Dev nD) (u : Unit) : lv (barCell c) u = 1 := by unfold lv; rw [role_bar]
theorem lv_recv (c : Dev nD) (d : Fin 3) (u : Unit) : lv (recvCell c d) u = 2 := by unfold lv; rw [role_recv]

theorem tallyAt_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h

/-- The cells on which copies are owed are receive cells. -/
theorem owedCopies_pos {c : Dev nD} {g : GSem nD τ sig} {u : Unit} (h : 0 < owedCopies c g u) : ∃ q d, g = recvCell q d := by
  unfold owedCopies at h
  rcases add_pos_cases h with h | h
  · rcases add_pos_cases h with h | h
    · rcases add_pos_cases h with h | h
      · exact absurd h (Nat.lt_irrefl 0)
      · exact ⟨_, _, tallyAt_pos h⟩
    · exact ⟨_, _, tallyAt_pos h⟩
  · exact ⟨_, _, tallyAt_pos h⟩

/-- The cells on which anything is owed are receive cells and barriers. -/
theorem owed_pos {c : Dev nD} {g : GSem nD τ sig} {u : Unit} (h : 0 < owed c g u) : (∃ q d, g = recvCell q d) ∨ ∃ q, g = barCell q := by
  unfold owed at h
  rcases add_pos_cases h with h | h
  · rcases add_pos_cases h with h | h
    · rcases add_pos_cases h with h | h
      · exact .inl (owedCopies_pos h)
      · exact .inr ⟨_, tallyAt_pos h⟩
    · exact .inr ⟨_, tallyAt_pos h⟩
  · exact .inr ⟨_, tallyAt_pos h⟩

/-- Whatever is owed sits above level 0. -/
theorem owed_cut {c : Dev nD} {g : GSem nD τ sig} {u : Unit} (h : 0 < owed c g u) : u ∈ L g ∧ 0 < lv g u := by
  rcases owed_pos h with ⟨q, d, rfl⟩ | ⟨q, rfl⟩
  · exact ⟨mem_L _ _ _, by rw [lv_recv]; decide⟩
  · exact ⟨mem_L _ _ _, by rw [lv_bar]; decide⟩

/-- At its barrier a device owes copies only, so it may wait there. -/
theorem mayWait_bar (c : Dev nD) : (levAts L lv : sProp 𝕄) ⊢ MayWait (c : Thread nD τ) (.reg barS) () (owedCopies c) :=
  MayOwe.of_cut (L := L) (lev := lv) 1 (fun p hp => by rw [Finset.mem_singleton.mp hp]; exact mem_L _ _ _)
    (fun g u hg => by obtain ⟨q, d, rfl⟩ := owedCopies_pos hg; exact mem_L _ _ _)
    (fun p hp => by rw [Finset.mem_singleton.mp hp]; exact le_of_eq (lv_bar c _))
    (fun g u hg => by obtain ⟨q, d, rfl⟩ := owedCopies_pos hg; rw [lv_recv]; decide)

end Cert.Talk

end
-- ==== Proof.Body.lean ====
/-
# One device's run of the kernel body

`table` is the 4×128 table a device computes from its blocks, `result` what it stores once it holds its own table and the
three others. `body_run` is the run of the body on a device `c`, one rule per operation in program order: three signals,
the block's arithmetic, the wait on the barrier, three copies, six waits, the sum and the store.
-/
module

public import proofs.«01_k».proof.Proof.Protocol
public import Idealize.ShloMosaic.Lib.Pipeline.Value

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

theorem cond1 : k0_cond1 (grid0.coords t0_0) = 1#1 := by decide +kernel
theorem cond2 : k0_cond2 (grid0.coords t0_0) = 1#1 := by decide +kernel

/-! ## Slots of the receive buffer -/

/-- The elements of slot `d`, as indices of the receive buffer. -/
abbrev slotS (d : Fin 3) : Finset S3x4x128.Idx := (slotM d).view.set

theorem slot_set (d : Fin 3) : slotS d = (slotR d).set := by
  show (((View.whole cc0_scratch2).slice _).reshape S4x128 _).set = _
  rw [View.set_reshape, View.set_slice_whole]

theorem slots_disjoint (d d' : Fin 3) (h : d ≠ d') : Disjoint (slotS d) (slotS d') := by
  rw [slot_set, slot_set]
  exact Ring.lead_disjoint (s := S3x4x128) (0 : Fin 3) 1 (fun d : Fin 3 => ![d.val, 0, 0]) S1x4x128.size slot_inb
    (fun d => by simp) rfl d d' h

theorem slots_cover : Finset.univ.biUnion slotS = Finset.univ := by
  rw [show slotS = fun d => (slotR d).set from funext slot_set]
  exact Ring.lead_cover (s := S3x4x128) (0 : Fin 3) 1 (fun d : Fin 3 => ![d.val, 0, 0]) S1x4x128.size slot_inb
    (fun d => by simp) (fun d a ha => by fin_cases a <;> simp_all) rfl (fun a ha => by fin_cases a <;> first | rfl | exact absurd rfl ha) rfl

/-- The receive buffer at any contents gives its three slots at any contents, -/
theorem slots_split (c : Dev nD) : (iprop(∃ f, ((c : Thread nD τ).loc cc0_scratch2) ↦{fullShare} f) : sProp 𝕄)
    ⊢ iprop((∃ f, slotPts c 0 f) ∗ (∃ f, slotPts c 1 f) ∗ ∃ f, slotPts c 2 f) := by
  refine exists_elim fun f => ?_
  rw [Ring.pointsTo_blocks slotS slots_disjoint slots_cover f]
  rw [bigSep_univ_eq_bigSepL [(0 : Fin 3), 1, 2] (by decide) (by decide), bigSepL_cons_cons, bigSepL_cons_cons, bigSepL_singleton]
  exact BI.sep_mono (exists_intro (Φ := slotPts c 0) f) (BI.sep_mono (exists_intro (Φ := slotPts c 1) f) (exists_intro (Φ := slotPts c 2) f))

/-- and takes them back. -/
theorem slots_join (c : Dev nD) (f₀ : Buf (Elt F) ((c : Thread nD τ).loc cc0_scratch2)) :
    (iprop((∃ f, slotPts c 0 f) ∗ (∃ f, slotPts c 1 f) ∗ ∃ f, slotPts c 2 f) : sProp 𝕄)
      ⊢ iprop(∃ f, ((c : Thread nD τ).loc cc0_scratch2) ↦{fullShare} f) := by
  refine Entails.trans (Entails.of_eq ?_) (Ring.pointsTo_blocks_join_exists slotS slots_disjoint slots_cover f₀)
  rw [bigSep_univ_eq_bigSepL [(0 : Fin 3), 1, 2] (by decide) (by decide), bigSepL_cons_cons, bigSepL_cons_cons, bigSepL_singleton]
  rfl

/-- What a load through the receive buffer at slot `d` reads, when the slot holds the table `t`. -/
def asSlot (t : Table F) : Vec F S1x4x128 .f32 := shapeCast S1x4x128 (t : FVec F S4x128 .f32) (by decide)

theorem read_slot (d : Fin 3) (f : (cc0_scratch2 : Ref sig .tc).ty.Contents (Elt F)) (t : Table F) (h : (slotM d).view.read (Elt F) f = t) :
    slotsM.view.readAt (Elt F) (slotR d).toLoadRect f = asSlot t := by
  rw [Memref.read_squeeze_slice slotsM (slotR d) (fun _ => rfl) squeezes_S1x4x128_S4x128 shapeCasts_S1x4x128_S4x128 f] at h
  subst h
  exact (shapeCast_shapeCast _ _ _).symm

/-! ## What the body computes -/

abbrev topR : Rect S4x128 := Rect.unit (s := S4x128) ![0, 0] S2x128.size inb_S4x128_S2x128_0_0
abbrev botR : Rect S4x128 := Rect.unit (s := S4x128) ![2, 0] S2x128.size inb_S4x128_S2x128_2_0

/-- The table with its first two rows filled: per row of `x`, the sum of the exponentials of its products with the columns
    of the block of `W`. -/
def tableTop (X : Vec F S256x512 .bf16) (B : Vec F S512x4096 .bf16) : Table F :=
  (tabM.access topR : View sig .tc _ _ _).write (Elt F) (k0_pay7 (F := F))
    (k0_pay1 (k0_pay10 B (k0_pay6 X) (tabM.view.readAt (Elt F) topR.toLoadRect (k0_pay7 (F := F))))) Finset.univ

/-- The table device `c` sends: the last two rows hold, per row of `x`, its product with the column its label names, if
    that column lies in the device's block of `W`. -/
def table (c : Dev nD) (X : Vec F S256x512 .bf16) (B : Vec F S512x4096 .bf16) (l : Vec F S256x1 .i32) : Table F :=
  (tabM.access botR : View sig .tc _ _ _).write (Elt F) (tableTop X B)
    (k0_pay2 (k0_pay9 (grid0.coords t0_0) c B (k0_pay6 X) l) (tabM.view.readAt (Elt F) botR.toLoadRect (tableTop X B))) Finset.univ

/-- What device `c` stores: the logarithm of the sum of the four tables' first rows, less the sum of their last rows. -/
def result (σ : Dev nD → Table F) (c : Dev nD) : Vec F S256 .f32 :=
  k0_pay3 (k0_pay4 (σ c) (asSlot (σ (peer c 2))) (asSlot (σ (peer c 1))) (asSlot (σ (peer c 0))))
    (k0_pay5 (σ c) (asSlot (σ (peer c 2))) (asSlot (σ (peer c 1))) (asSlot (σ (peer c 0))))

variable (K : GSem nD τ sig → ℕ) (σ : Dev nD → Table F)

/-! ## The ghost state a device runs from -/

/-- The invariants and marks direction `d` of device `c` uses. -/
def laneInv (c : Dev nD) (d : Fin 3) : sProp 𝕄 :=
  iprop(cellInv ER (rd σ) (K (barCell (peer c d))) (barCell (peer c d)) ∗ cellInv ER (rd σ) (K (sendCell c d)) (sendCell c d)
    ∗ cellInv ER (rd σ) (K (recvCell c d)) (recvCell c d) ∗ cellInv ER (rd σ) (K (recvCell (peer c d) d)) (recvCell (peer c d) d)
    ∗ reached ER (barCell (peer c d)) 0)
/-- The duties device `c` pays in direction `d`: a barrier unit, its own send semaphore, the peer's receive semaphore. -/
def laneToks (c : Dev nD) (d : Fin 3) : sProp 𝕄 :=
  iprop(dutyTok ER (barCell (peer c d)) 0 d.rev ∗ dutyTok ER (sendCell c d) 0 0 ∗ dutyTok ER (recvCell (peer c d) d) 0 0)
/-- The position of device `c` on its own two semaphores of direction `d`, once they are opened. -/
def laneAt (c : Dev nD) (d : Fin 3) : sProp 𝕄 :=
  iprop(reached ER (sendCell c d) 0 ∗ reached ER (recvCell c d) 0 ∗ atPos ER (sendCell c d) 0 ∅ 0 ∗ atPos ER (recvCell c d) 0 ∅ 0)

instance laneInv_persistent (c : Dev nD) (d : Fin 3) : BI.Persistent (laneInv K σ c d) := by unfold laneInv; infer_instance

/-! ## The steps that talk, direction by direction -/

/-- A signal to `peer c d`: it carries slot `3 - d` of `c`. -/
theorem signal_step (c n : Dev nD) (d : Fin 3) (hn : n = peer c d) {α : Type} {Q : α → sProp 𝕄}
    {k : PUnit → Prog (TpuEff nD τ sig (Elt F) Λ₀ .tc) α} (O : CellTallies nD τ sig Unit) (W : Waits sig Unit) {n' : ℕ} (hn' : n' = 1) :
    iprop(cellInv ER (rd σ) (K (barCell (peer c d))) (barCell (peer c d)) ∗ owes (c : Thread nD τ) (O + tallyAt (barCell (peer c d)) () 1) W
        ∗ dutyTok ER (barCell (peer c d)) 0 d.rev ∗ ((∃ f, slotPts (F := F) c d.rev f) ∗ reached ER (recvCell c d.rev) 0)
        ∗ reached ER (barCell (peer c d)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS n') k) Q) := by
  subst hn hn'
  have e : iprop((∃ f, slotPts (F := F) c d.rev f) ∗ reached ER (recvCell c d.rev) 0) = ((rd σ).payload (barCell (peer c d)) 0 d.rev : sProp 𝕄) := by
    rw [payload_bar]; unfold barPay; rw [peer_back]
  rw [e]
  exact Rounds.wp_signal 𝒱₀ ER (rd σ) (c : Thread nD τ) none (dst := (peer c d : Thread nD τ)) (κ := K (barCell (peer c d))) (d := d.rev)
    (by rw [duties_bar]; exact Finset.mem_univ _) (amount_bar σ (peer c d) d.rev) () O rfl

/-- A copy of `c`'s table into slot `d` of `peer c d`. -/
theorem send_step (c n : Dev nD) (d : Fin 3) (hn : n = peer c d) {hsc : (slotM d : Memref sig (Dev.tc n : Thread nD τ).2.kind .vmem S4x128 .f32).view.ref.isScScratch = false}
    {hsrc : tabM.view.WordExact} {hdst : (slotM d : Memref sig (Dev.tc n : Thread nD τ).2.kind .vmem S4x128 .f32).view.WordExact}
    {hsem : DmaTarget.Typed .vmem (.dma (recvS d)) (.remote (Dev.tc n : Thread nD τ) (slotM d) (.dma (sendS d)) hsc)}
    {α : Type} {Q : α → sProp 𝕄} {k : PUnit → Prog (TpuEff nD τ sig (Elt F) Λ₀ .tc) α} (O : CellTallies nD τ sig Unit) (W : Waits sig Unit) :
    iprop(cellInv ER (rd σ) (K (sendCell c d)) (sendCell c d) ∗ cellInv ER (rd σ) (K (recvCell (peer c d) d)) (recvCell (peer c d) d)
        ∗ tabPts σ c d ∗ (∃ f, slotPts (peer c d) d f)
        ∗ owes (c : Thread nD τ) (O + tallyAt (recvCell (peer c d) d) () N) W
        ∗ dutyTok ER (sendCell c d) 0 0 ∗ reached ER (sendCell c d) 0
        ∗ dutyTok ER (recvCell (peer c d) d) 0 0 ∗ reached ER (recvCell (peer c d) d) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma tabM (.remote (Dev.tc n : Thread nD τ) (slotM d) (.dma (sendS d)) hsc) (.dma (recvS d)) hsrc hdst hsem) k) Q) := by
  subst hn
  iintro ⟨H1, H2, H3, ⟨%fd, H4⟩, H5⟩
  unfold tabPts slotPts
  iapply (Rounds.wp_send_pointsTo 𝒱₀ ER (rd σ) (c : Thread nD τ) none (c' := (peer c d : Thread nD τ)) (src := tabM) (dst := slotM d) (q := third d) (fs := σ c) (κ₁ := K (sendCell c d)) (κ₂ := K (recvCell (peer c d) d))
    (r₁ := 0) (r₂ := 0) (d₁ := 0) (d₂ := 0) (fd := fd)
    (by rw [duties_send]; exact Finset.mem_singleton_self _) (by rw [duties_recv]; exact Finset.mem_singleton_self _)
    () () N rfl (amount_send σ c d 0) (amount_recv σ (peer c d) d 0) O rfl (W := W)
    (by rw [payload_send]; exact BI.Entails.refl _)
    (by
      rw [payload_recv]; unfold recvPay slotPts; rw [peer_back]
      iintro H; iexists _
      isplitr
      · ipureintro
        exact (View.read_write_univ (v := (slotM d).view) (Val := Elt F) fd _).trans (View.read_whole (Val := Elt F) cc0_scratch1 (σ c))
      iexact H))
  isplitl [H1]; · iexact H1
  isplitl [H2]; · iexact H2
  isplitl [H3]; · iexact H3
  isplitl [H4]; · iexact H4
  iexact H5

/-- The wait for `c`'s own copy in direction `d` to have been read: the share of the table comes back, and the semaphore is
    at zero for good. -/
theorem send_wait (c : Dev nD) (d : Fin 3) {h₁ : (slotM d).view.WordExact} {h₂ : tabM.view.WordExact} {α : Type} {Q : α → sProp 𝕄}
    {k : PUnit → Prog (TpuEff nD τ sig (Elt F) Λ₀ .tc) α} :
    iprop(cellInv ER (rd σ) (K (sendCell c d)) (sendCell c d) ∗ cred (tallyAt (sendCell c d) () N) ∗ (∃ W, owes (c : Thread nD τ) 0 W)
        ∗ atPos ER (sendCell c d) 0 ∅ 0)
      ⊢ iprop((((∃ W, owes (c : Thread nD τ) 0 W) ∗ semVal (sendCell c d) 0 ∗ tabPts σ c d)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS d) (slotM d) tabM h₁ h₂) k) Q) := by
  iintro ⟨#HI, Hc, ⟨%W, HO⟩, Hat⟩ Hk
  iapply (Rounds.wp_wait_rest_token 𝒱₀ ER (rd σ) (c : Thread nD τ) none (κ := K (sendCell c d))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send σ c d)) $$ Hpay
  imod (Rounds.cell_close ER (rd σ) (Set.mem_univ (K (sendCell c d))) (fun h => h) (R := 0 + 1) (duties_later σ (sendCell c d))) $$ [Hat] with Hz
  · isplitr; · iexact HI
    iexact Hat
  iapply Hk
  isplitl [HO]; · iexists _; iexact HO
  isplitl [Hz] <;> iassumption

/-- The wait for the copy into slot `d` of `c`: the slot comes back holding the sender's table. -/
theorem recv_wait (c : Dev nD) (d : Fin 3) {h₁ : tabM.view.WordExact} {h₂ : (slotM d).view.WordExact} {α : Type} {Q : α → sProp 𝕄}
    {k : PUnit → Prog (TpuEff nD τ sig (Elt F) Λ₀ .tc) α} :
    iprop(cellInv ER (rd σ) (K (recvCell c d)) (recvCell c d) ∗ cred (tallyAt (recvCell c d) () N) ∗ (∃ W, owes (c : Thread nD τ) 0 W)
        ∗ atPos ER (recvCell c d) 0 ∅ 0)
      ⊢ iprop((((∃ W, owes (c : Thread nD τ) 0 W) ∗ semVal (recvCell c d) 0 ∗ recvPay σ c d)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS d) tabM (slotM d) h₁ h₂) k) Q) := by
  iintro ⟨#HI, Hc, ⟨%W, HO⟩, Hat⟩ Hk
  iapply (Rounds.wp_wait_rest_token 𝒱₀ ER (rd σ) (c : Thread nD τ) none (κ := K (recvCell c d))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv σ c d)) $$ Hpay
  imod (Rounds.cell_close ER (rd σ) (Set.mem_univ (K (recvCell c d))) (fun h => h) (R := 0 + 1) (duties_later σ (recvCell c d))) $$ [Hat] with Hz
  · isplitr; · iexact HI
    iexact Hat
  iapply Hk
  isplitl [HO]; · iexists _; iexact HO
  isplitl [Hz] <;> iassumption

/-- A load of slot `d` once it has arrived reads the sender's table. -/
theorem slot_load (c : Dev nD) (d : Fin 3) {hl : slotsM.view.LoadsAt (slotR d).toLoadRect} {α : Type} {Q : α → sProp 𝕄}
    {k : Vec F S1x4x128 .f32 → Prog (TpuEff nD τ sig (Elt F) Λ₀ .tc) α} :
    recvPay σ c d
      ⊢ iprop(((∃ f, slotPts c d f)
            -∗ wp frame (wpE (defs₀ (F := F)) 𝒱₀ (c : Thread nD τ) none) Set.univ (k (asSlot (σ (peer c d.rev)))) Q)
          -∗ wp frame (wpE (defs₀ (F := F)) 𝒱₀ (c : Thread nD τ) none) Set.univ (.op (.load slotsM (slotR d).toLoadRect hl) k) Q) := by
  unfold recvPay slotPts
  iintro ⟨%f, %hf, H⟩ Hk
  iapply (wp_load 𝒱₀ (c : Thread nD τ) none Set.univ (m := slotsM) (S := slotS d) (by
    rw [show slotsM.view.setOn (slotR d).toLoadRect.set = (slotsM.access (slotR d)).set from (View.set_slice _ _).symm]
    rw [slot_set]; exact (View.set_slice_whole cc0_scratch2 (slotR d)).subset)) $$ H
  iintro H
  rw [read_slot d f _ hf]
  iapply Hk
  iexists f; iexact H

/-! ## The run -/

/-- A buffer of `c` held whole at contents `f`. -/
abbrev held1 (c : Dev nD) (b : Ref sig .tc) (f : Buf (Elt F) ((c : Thread nD τ).loc b)) : sProp 𝕄 := ((c : Thread nD τ).loc b) ↦{fullShare} f

/-- A load of a whole buffer reads its contents. -/
theorem load_all (c : Dev nD) {cs : CoreSpace} {i : Fin (sig.nNear Kind.tc cs)} {hκ : sig.names Kind.tc cs i = true}
    {off : Fin (sig.tyNear Kind.tc cs i).shape.rank → Nat} (h0 : off = fun _ => 0) {inb : ∀ a, off a + (sig.tyNear Kind.tc cs i).shape.size a ≤ (sig.tyNear Kind.tc cs i).shape.size a}
    {hl : (Memref.whole ⟨cs, i, hκ⟩ : Memref sig Kind.tc _ _ _).view.LoadsAt (Rect.unit off (sig.tyNear Kind.tc cs i).shape.size inb).toLoadRect}
    {α : Type} {Q : α → sProp 𝕄} {k : (sig.tyNear Kind.tc cs i).Contents (Elt F) → Prog (TpuEff nD τ sig (Elt F) Λ₀ .tc) α}
    {f : Buf (Elt F) ((c : Thread nD τ).loc ⟨cs, i, hκ⟩)} :
    held1 c ⟨cs, i, hκ⟩ f
      ⊢ iprop((held1 c ⟨cs, i, hκ⟩ f -∗ wp frame (wpE (defs₀ (F := F)) 𝒱₀ (c : Thread nD τ) none) Set.univ (k f) Q)
        -∗ wp frame (wpE (defs₀ (F := F)) 𝒱₀ (c : Thread nD τ) none) Set.univ
            (.op (.load (Memref.whole ⟨cs, i, hκ⟩) (Rect.unit off (sig.tyNear Kind.tc cs i).shape.size inb).toLoadRect hl) k) Q) := by
  have h := wp_load (defs := defs₀ (F := F)) 𝒱₀ (c : Thread nD τ) none (Γ := PendingWaitsCtx.empty) Set.univ (Q := Q) (m := Memref.whole ⟨cs, i, hκ⟩)
    (r := (Rect.unit off (sig.tyNear Kind.tc cs i).shape.size inb).toLoadRect) (hl := hl) (k := k) (q := fullShare) (f := f) (S := Finset.univ) (Finset.subset_univ _)
  rw [Memref.readAt_unit_zero (Elt F) ⟨cs, i, hκ⟩ h0] at h
  exact h

/-- A store to a whole buffer replaces its contents. -/
theorem store_all (c : Dev nD) {cs : CoreSpace} {i : Fin (sig.nNear Kind.tc cs)} {hκ : sig.names Kind.tc cs i = true}
    {off : Fin (sig.tyNear Kind.tc cs i).shape.rank → Nat} (h0 : off = fun _ => 0) {inb : ∀ a, off a + (sig.tyNear Kind.tc cs i).shape.size a ≤ (sig.tyNear Kind.tc cs i).shape.size a}
    {w : (sig.tyNear Kind.tc cs i).Contents (Elt F)}
    {hx : ((Memref.whole ⟨cs, i, hκ⟩).access (Rect.unit off (sig.tyNear Kind.tc cs i).shape.size inb) : View sig Kind.tc _ _ _).Stores Finset.univ}
    {hm : Finset.univ = Finset.univ ∨ ∀ a, (Rect.unit off (sig.tyNear Kind.tc cs i).shape.size inb).stride a = 1}
    {α : Type} {Q : α → sProp 𝕄} {k : PUnit → Prog (TpuEff nD τ sig (Elt F) Λ₀ .tc) α}
    {f : Buf (Elt F) ((c : Thread nD τ).loc ⟨cs, i, hκ⟩)} :
    held1 c ⟨cs, i, hκ⟩ f
      ⊢ iprop((held1 c ⟨cs, i, hκ⟩ w -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole ⟨cs, i, hκ⟩) (Rect.unit off (sig.tyNear Kind.tc cs i).shape.size inb) w Finset.univ hx hm) k) Q) := by
  have h := wp_store (defs := defs₀ (F := F)) 𝒱₀ (c : Thread nD τ) none (Γ := PendingWaitsCtx.empty) Set.univ (Q := Q) (m := Memref.whole ⟨cs, i, hκ⟩)
    (r := Rect.unit off (sig.tyNear Kind.tc cs i).shape.size inb) (w := w) (Mk := Finset.univ) (hx := hx) (hm := hm) (k := k) (f := f) (S := Finset.univ) (Finset.subset_univ _)
  rw [Memref.write_access_unit_zero_univ (Elt F) ⟨cs, i, hκ⟩ h0] at h
  exact h

/-- A load of some rows of the table, -/
theorem load_rows (c : Dev nD) {r : LoadRect S4x128} {hl : tabM.view.LoadsAt r} {α : Type} {Q : α → sProp 𝕄}
    {k : (r.shape.Idx → Elt F .f32) → Prog (TpuEff nD τ sig (Elt F) Λ₀ .tc) α} {f : Table F} :
    held1 c cc0_scratch1 f
      ⊢ iprop((held1 c cc0_scratch1 f -∗ wp frame (wpE (defs₀ (F := F)) 𝒱₀ (c : Thread nD τ) none) Set.univ (k (tabM.view.readAt (Elt F) r f)) Q)
        -∗ wp frame (wpE (defs₀ (F := F)) 𝒱₀ (c : Thread nD τ) none) Set.univ (.op (.load tabM r hl) k) Q) :=
  wp_load 𝒱₀ (c : Thread nD τ) none Set.univ (m := tabM) (Finset.subset_univ _)

/-- and a store to some rows. -/
theorem store_rows (c : Dev nD) {r : Rect S4x128} {w : r.shape.Idx → Elt F .f32} {hx : (tabM.access r).Stores Finset.univ}
    {hm : Finset.univ = Finset.univ ∨ ∀ a, r.stride a = 1} {α : Type} {Q : α → sProp 𝕄}
    {k : PUnit → Prog (TpuEff nD τ sig (Elt F) Λ₀ .tc) α} {f : Table F} :
    held1 c cc0_scratch1 f
      ⊢ iprop((held1 c cc0_scratch1 ((tabM.access r).write (Elt F) f w Finset.univ)
            -∗ wp frame (wpE (defs₀ (F := F)) 𝒱₀ (c : Thread nD τ) none) Set.univ (k ⟨⟩) Q)
        -∗ wp frame (wpE (defs₀ (F := F)) 𝒱₀ (c : Thread nD τ) none) Set.univ (.op (.store tabM r w Finset.univ hx hm) k) Q) :=
  wp_store (defs := defs₀ (F := F)) 𝒱₀ (c : Thread nD τ) none (Γ := PendingWaitsCtx.empty) Set.univ (Q := Q) (m := tabM)
    (r := r) (w := w) (Mk := Finset.univ) (hx := hx) (hm := hm) (k := k) (f := f) (S := Finset.univ) (Finset.subset_univ _)

/-- The whole table, as the three shares its copies read. -/
theorem table_split (c : Dev nD) (t : Table F) (h : σ c = t) :
    held1 c cc0_scratch1 t ⊢ iprop(tabPts σ c 0 ∗ tabPts σ c 1 ∗ tabPts σ c 2) := by
  subst h
  have := (tab_shares c (σ c)).1
  rw [show tabM.view.set = Finset.univ from View.set_whole _] at this
  unfold tabPts
  rw [show tabM.view.set = Finset.univ from View.set_whole _]
  exact this
theorem table_join (c : Dev nD) : iprop(tabPts σ c 0 ∗ tabPts σ c 1 ∗ tabPts σ c 2) ⊢ held1 c cc0_scratch1 (σ c) := by
  have := (tab_shares c (σ c)).2
  rw [show tabM.view.set = Finset.univ from View.set_whole _] at this
  unfold tabPts
  rw [show tabM.view.set = Finset.univ from View.set_whole _]
  exact this

/-- What device `c` runs the body from, the staged blocks being `X`, `B` and `l`. -/
def bodyPre (c : Dev nD) (X : Vec F S256x512 .bf16) (B : Vec F S512x4096 .bf16) (l : Vec F S256x1 .i32) : sProp 𝕄 :=
  iprop((cellInv ER (rd σ) (K (barCell c)) (barCell c) ∗ laneInv K σ c 0 ∗ laneInv K σ c 1 ∗ laneInv K σ c 2 ∗ levAts L lv)
    ∗ (atPos ER (barCell c) 0 ∅ 0 ∗ laneAt c 0 ∗ laneAt c 1 ∗ laneAt c 2)
    ∗ (laneToks c 0 ∗ laneToks c 1 ∗ laneToks c 2)
    ∗ (cred (tallyAt (barCell c) () 3) ∗ cred (tallyAt (recvCell c 0) () N) ∗ cred (tallyAt (recvCell c 1) () N) ∗ cred (tallyAt (recvCell c 2) () N))
    ∗ (∃ W, owes (c : Thread nD τ) (owed c) W)
    ∗ (held1 c cc0_stg0_0 X ∗ held1 c cc0_stg1_0 B ∗ held1 c cc0_stg2_0 l ∗ ∃ o, held1 c cc0_stg3_0 o)
    ∗ (∃ f, held1 c cc0_scratch0 f) ∗ (∃ f, held1 c cc0_scratch1 f) ∗ ∃ f, held1 c cc0_scratch2 f)

/-- What it ends with: nothing owed, every semaphore at zero, the result stored. -/
def bodyPost (c : Dev nD) (X : Vec F S256x512 .bf16) (B : Vec F S512x4096 .bf16) (l : Vec F S256x1 .i32) : sProp 𝕄 :=
  iprop((∃ W, owes (c : Thread nD τ) 0 W)
    ∗ (semVal (barCell c) 0 ∗ (semVal (sendCell c 0) 0 ∗ semVal (recvCell c 0) 0) ∗ (semVal (sendCell c 1) 0 ∗ semVal (recvCell c 1) 0)
        ∗ semVal (sendCell c 2) 0 ∗ semVal (recvCell c 2) 0)
    ∗ (held1 c cc0_stg0_0 X ∗ held1 c cc0_stg1_0 B ∗ held1 c cc0_stg2_0 l ∗ held1 c cc0_stg3_0 (result σ c))
    ∗ (∃ f, held1 c cc0_scratch0 f) ∗ (∃ f, held1 c cc0_scratch1 f) ∗ ∃ f, held1 c cc0_scratch2 f)

theorem hz2 : (![0, 0] : Fin 2 → Nat) = fun _ => 0 := funext fun a => by fin_cases a <;> rfl
theorem hz1 : (![0] : Fin 1 → Nat) = fun _ => 0 := funext fun a => by fin_cases a; rfl

set_option backward.isDefEq.respectTransparency false in
set_option maxHeartbeats 2000000 in
/-- The body on device `c`, one rule per operation in program order. -/
theorem body_run (c : Dev nD) (X : Vec F S256x512 .bf16) (B : Vec F S512x4096 .bf16) (l : Vec F S256x1 .i32) (hσ : σ c = table c X B l)
    (Kt : PUnit → sProp 𝕄) :
    iprop(bodyPre K σ c X B l ∗ (bodyPost σ c X B l -∗ Kt ⟨⟩))
      ⊢ wp frame (wpE (defs₀ (F := F)) 𝒱₀ (c : Thread nD τ) none) Set.univ
          (cc0_body (grid0.coords t0_0) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part6_eq_skeleton]; unfold k0_part6_skel
  simp only [dif_pos cond1, dif_pos cond2, k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre laneInv laneAt laneToks owed
  have hσ' := hσ; unfold table tableTop at hσ'
  iintro ⟨⟨⟨#HIB, ⟨#HB0, #HS0, #HV0, #HP0, #HrB0⟩, ⟨#HB1, #HS1, #HV1, #HP1, #HrB1⟩, ⟨#HB2, #HS2, #HV2, #HP2, #HrB2⟩, #Hlev⟩,
    ⟨HatB, ⟨#HrS0, #HrV0, HaS0, HaV0⟩, ⟨#HrS1, #HrV1, HaS1, HaV1⟩, ⟨#HrS2, #HrV2, HaS2, HaV2⟩⟩,
    ⟨⟨HtB0, HtS0, HtV0⟩, ⟨HtB1, HtS1, HtV1⟩, ⟨HtB2, HtS2, HtV2⟩⟩, ⟨HcB, HcV0, HcV1, HcV2⟩, ⟨%W, HO⟩,
    ⟨HX, HW, HL, ⟨%o, Hout⟩⟩, ⟨%f0, Hxb⟩, ⟨%f1, Htab⟩, Hslots⟩, Hk⟩
  ihave Hsl := (slots_split c) $$ Hslots
  icases Hsl with ⟨Hs0, Hs1, Hs2⟩
  -- three signals, each with one slot of `c`
  iapply (signal_step K σ c _ 0 (Fin.ext (dev1_eq c)) _ W (by decide)) $$ [HO HtB0 Hs2]
  · isplitr; · iexact HB0
    isplitl [HO]; · iexact HO
    isplitl [HtB0]; · iexact HtB0
    isplitl [Hs2]; · isplitl [Hs2]; · iexact Hs2
                     iexact HrV2
    iexact HrB0
  iintro HO
  iapply (signal_step K σ c _ 1 (Fin.ext (dev2_eq c)) _ W (by decide)) $$ [HO HtB1 Hs1]
  · isplitr; · iexact HB1
    isplitl [HO]; · iexact HO
    isplitl [HtB1]; · iexact HtB1
    isplitl [Hs1]; · isplitl [Hs1]; · iexact Hs1
                     iexact HrV1
    iexact HrB1
  iintro HO
  iapply (signal_step K σ c _ 2 (Fin.ext (dev3_eq c)) _ W (by decide)) $$ [HO HtB2 Hs0]
  · isplitr; · iexact HB2
    isplitl [HO]; · iexact HO
    isplitl [HtB2]; · iexact HtB2
    isplitl [Hs0]; · isplitl [Hs0]; · iexact Hs0
                     iexact HrV0
    iexact HrB2
  iintro HO
  -- the table
  iapply (load_all c hz2) $$ HX; iintro HX
  iapply (load_all c hz2) $$ Hxb; iintro Hxb
  iapply (store_all c hz2) $$ Hxb; iintro Hxb
  iapply (load_all c hz2) $$ Htab; iintro Htab
  iapply (store_all c hz2) $$ Htab; iintro Htab
  iapply (load_all c hz2) $$ HW; iintro HW
  iapply (load_all c hz2) $$ Hxb; iintro Hxb
  iapply (load_all c hz2) $$ HL; iintro HL
  iapply (load_rows c) $$ Htab; iintro Htab
  iapply (load_rows c) $$ Htab; iintro Htab
  iapply (store_rows c) $$ Htab; iintro Htab
  iapply (load_rows c) $$ Htab; iintro Htab
  iapply (load_rows c) $$ Htab; iintro Htab
  iapply (store_rows c) $$ Htab; iintro Htab
  -- the wait for three units on `c`'s own barrier: the slots of its peers come with them
  iapply (Rounds.wp_wait_rest_token 𝒱₀ ER (rd σ) (c : Thread nD τ) none (κ := K (barCell c))
      (wpE_semWait_eq 𝒱₀ (c : Thread nD τ) none Set.univ) (Set.mem_univ _) () (O := owedCopies c) (W := W) (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq (rest_bar σ c)) $$ Hpay
  unfold barPay owedCopies
  icases Hp with ⟨⟨Hs0, #Hr0⟩, ⟨Hs1, #Hr1⟩, ⟨Hs2, #Hr2⟩⟩
  imod (Rounds.cell_close ER (rd σ) (Set.mem_univ (K (barCell c))) (fun h => h) (R := 0 + 1) (duties_later σ (barCell c))) $$ [HatB] with HzB
  · isplitr; · iexact HIB
    iexact HatB
  -- the three copies, each reading its share of the table
  ihave Ht := (table_split σ c _ hσ') $$ Htab
  icases Ht with ⟨Ht0, Ht1, Ht2⟩
  iapply (send_step K σ c _ 0 (Fin.ext (dev4_eq c)) _ _) $$ [Ht0 Hs0 HO HtS0 HtV0]
  · isplitr; · iexact HS0
    isplitr; · iexact HP0
    isplitl [Ht0]; · iexact Ht0
    isplitl [Hs0]; · iexact Hs0
    isplitl [HO]; · iexact HO
    isplitl [HtS0]; · iexact HtS0
    isplitr; · iexact HrS0
    isplitl [HtV0]; · iexact HtV0
    iexact Hr0
  iintro ⟨HcS0, HO⟩
  iapply (send_step K σ c _ 1 (Fin.ext (dev5_eq c)) _ _) $$ [Ht1 Hs1 HO HtS1 HtV1]
  · isplitr; · iexact HS1
    isplitr; · iexact HP1
    isplitl [Ht1]; · iexact Ht1
    isplitl [Hs1]; · iexact Hs1
    isplitl [HO]; · iexact HO
    isplitl [HtS1]; · iexact HtS1
    isplitr; · iexact HrS1
    isplitl [HtV1]; · iexact HtV1
    iexact Hr1
  iintro ⟨HcS1, HO⟩
  iapply (send_step K σ c _ 2 (Fin.ext (dev6_eq c)) _ _) $$ [Ht2 Hs2 HO HtS2 HtV2]
  · isplitr; · iexact HS2
    isplitr; · iexact HP2
    isplitl [Ht2]; · iexact Ht2
    isplitl [Hs2]; · iexact Hs2
    isplitl [HO]; · iexact HO
    isplitl [HtS2]; · iexact HtS2
    isplitr; · iexact HrS2
    isplitl [HtV2]; · iexact HtV2
    iexact Hr2
  iintro ⟨HcS2, HO⟩
  -- the six waits
  iapply (send_wait K σ c 0) $$ [HcS0 HO HaS0]
  · isplitr; · iexact HS0
    isplitl [HcS0]; · iexact HcS0
    isplitl [HO]; · iexists _; iexact HO
    iexact HaS0
  iintro ⟨HO, HzS0, Ht0⟩
  iapply (recv_wait K σ c 0) $$ [HcV0 HO HaV0]
  · isplitr; · iexact HV0
    isplitl [HcV0]; · iexact HcV0
    isplitl [HO]; · iexact HO
    iexact HaV0
  iintro ⟨HO, HzV0, Hv0⟩
  iapply (send_wait K σ c 1) $$ [HcS1 HO HaS1]
  · isplitr; · iexact HS1
    isplitl [HcS1]; · iexact HcS1
    isplitl [HO]; · iexact HO
    iexact HaS1
  iintro ⟨HO, HzS1, Ht1⟩
  iapply (recv_wait K σ c 1) $$ [HcV1 HO HaV1]
  · isplitr; · iexact HV1
    isplitl [HcV1]; · iexact HcV1
    isplitl [HO]; · iexact HO
    iexact HaV1
  iintro ⟨HO, HzV1, Hv1⟩
  iapply (send_wait K σ c 2) $$ [HcS2 HO HaS2]
  · isplitr; · iexact HS2
    isplitl [HcS2]; · iexact HcS2
    isplitl [HO]; · iexact HO
    iexact HaS2
  iintro ⟨HO, HzS2, Ht2⟩
  iapply (recv_wait K σ c 2) $$ [HcV2 HO HaV2]
  · isplitr; · iexact HV2
    isplitl [HcV2]; · iexact HcV2
    isplitl [HO]; · iexact HO
    iexact HaV2
  iintro ⟨HO, HzV2, Hv2⟩
  -- the four tables, and the store
  ihave Htab := (table_join σ c) $$ [Ht0 Ht1 Ht2]
  · isplitl [Ht0]; · iexact Ht0
    isplitl [Ht1] <;> iassumption
  iapply (load_all c hz2) $$ Htab; iintro Htab
  iapply (slot_load σ c 0) $$ Hv0; iintro Hs0
  iapply (slot_load σ c 1) $$ Hv1; iintro Hs1
  iapply (slot_load σ c 2) $$ Hv2; iintro Hs2
  iapply (load_all c hz1) $$ Hout; iintro Hout
  iapply (store_all c hz1) $$ Hout; iintro Hout
  rw [wp_ret]; imodintro
  iapply Hk
  unfold bodyPost
  isplitl [HO]; · iexact HO
  isplitl [HzB HzS0 HzV0 HzS1 HzV1 HzS2 HzV2]
  · isplitl [HzB]; · iexact HzB
    isplitl [HzS0 HzV0]; · isplitl [HzS0] <;> iassumption
    isplitl [HzS1 HzV1]; · isplitl [HzS1] <;> iassumption
    isplitl [HzS2] <;> iassumption
  isplitl [HX HW HL Hout]
  · isplitl [HX]; · iexact HX
    isplitl [HW]; · iexact HW
    isplitl [HL]; · iexact HL
    iexact Hout
  isplitl [Hxb]; · iexists _; iexact Hxb
  isplitl [Htab]; · iexists _; iexact Htab
  iapply (slots_join c fun _ => (FloatOps.ofBits .f32 0 : F .f32))
  isplitl [Hs0]; · iexact Hs0
  isplitl [Hs1] <;> iassumption

end Cert.Talk

end
-- ==== Proof.Region.lean ====
/-
# The call's region

The call stages its four windows, each one whole buffer, runs the body at its one grid point and writes the result back.
This module gives the proof data of that region: what a device holds when it enters (`Held`), that the body leads from the
contents before to the contents after (`body`), and the region as a segment of the program (`reg`).
-/
module

public import proofs.«01_k».proof.Proof.Body
public import Idealize.ShloMosaic.Lib.StableHlo
public import Idealize.ShloMosaic.Lib.Pipeline.Regions

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The contents of the buffers -/

/-- The buffers at launch, after the reshape of the labels, and after the call. -/
abbrev V₀ (c : Dev nD) : Valuation τ sig (Elt F) := fun b => m ((c : Dev nD), b)
abbrev V₁ (c : Dev nD) : Valuation τ sig (Elt F) := StableHlo.after hostOps0 (V₀ m c)

/-- What the call reads on device `c`: `x`, the block of `W`, the labels as a column. -/
def inX (c : Dev nD) : Vec F S256x512 .bf16 := V₁ m c (Proc.devRef .tc main_arg0)
def inW (c : Dev nD) : Vec F S512x4096 .bf16 := V₁ m c (Proc.devRef .tc main_arg1)
def inL (c : Dev nD) : Vec F S256x1 .i32 := V₁ m c (Proc.devRef .tc main_v1)

/-- The table each device sends. -/
def tab (c : Dev nD) : Table F := table c (inX m c) (inW m c) (inL m c)

abbrev V₂ (c : Dev nD) : Valuation τ sig (Elt F) := Function.update (V₁ m c) (Proc.devRef .tc main_v2) (result (tab m) c)

theorem V₂_out (c : Dev nD) : V₂ m c (Proc.devRef .tc main_v2) = result (tab m) c := Function.update_self ..
theorem V₂_ne (c : Dev nD) {b : DevRef τ sig} (h : b ≠ Proc.devRef .tc main_v2) : V₂ m c b = V₁ m c b := Function.update_of_ne h ..

/-! ## What a device holds beside its buffers -/

variable (K : GSem nD τ sig → ℕ)

/-- The records a device consults. -/
def invs (c : Dev nD) : sProp 𝕄 :=
  iprop(cellInv ER (rd (tab m)) (K (barCell c)) (barCell c) ∗ laneInv K (tab m) c 0 ∗ laneInv K (tab m) c 1 ∗ laneInv K (tab m) c 2)
instance invs_persistent (c : Dev nD) : BI.Persistent (invs m K c) := by unfold invs; infer_instance

/-- The right to open the two semaphores of direction `d`. -/
def laneOpen (c : Dev nD) (d : Fin 3) : sProp 𝕄 := iprop(openTok ER (sendCell c d) ∗ openTok ER (recvCell c d))

/-- The protocol's state on device `c` before the call, its copy semaphores not yet opened. -/
def ghost (c : Dev nD) : sProp 𝕄 :=
  iprop(invs m K c ∗ (atPos ER (barCell c) 0 ∅ 0 ∗ laneOpen c 0 ∗ laneOpen c 1 ∗ laneOpen c 2) ∗ (laneToks c 0 ∗ laneToks c 1 ∗ laneToks c 2))
/-- The same once they are opened. -/
def opened (c : Dev nD) : sProp 𝕄 :=
  iprop(invs m K c ∗ (atPos ER (barCell c) 0 ∅ 0 ∗ laneAt c 0 ∗ laneAt c 1 ∗ laneAt c 2) ∗ (laneToks c 0 ∗ laneToks c 1 ∗ laneToks c 2))

/-- What device `c` may wait for: three barrier units, and a table on each receive semaphore. -/
def credits (c : Dev nD) : sProp 𝕄 :=
  iprop(cred (tallyAt (barCell c) () 3) ∗ cred (tallyAt (recvCell c 0) () N) ∗ cred (tallyAt (recvCell c 1) () N) ∗ cred (tallyAt (recvCell c 2) () N))

/-- The two copy semaphores of direction `d`, back at zero. -/
def laneZero (c : Dev nD) (d : Fin 3) : sProp 𝕄 := iprop(semVal (sendCell c d) 0 ∗ semVal (recvCell c d) 0)

def Tk (c : Dev nD) : sProp 𝕄 := iprop((∃ K, ghost m K c) ∗ credits c)
def Xk (c : Dev nD) : sProp 𝕄 := iprop((∃ K, opened m K c) ∗ credits c ∗ levAts L lv)
def Yk (c : Dev nD) : sProp 𝕄 := semVal (barCell c) 0

/-- The three scratch buffers, at contents that do not matter. -/
def scratch (c : Dev nD) : sProp 𝕄 := iprop((∃ f, held1 c cc0_scratch0 f) ∗ (∃ f, held1 c cc0_scratch1 f) ∗ ∃ f, held1 c cc0_scratch2 f)

/-- The call's own semaphores: per direction the send semaphore and the receive semaphore. -/
def osem (p : Fin 3 × Fin 2) : SemLoc sig := .dma (if p.2 = 0 then sendS p.1 else recvS p.1)

theorem ownSems_eq (c : Dev nD) : (Pipeline.ownSems0 osem c : sProp 𝕄) = iprop(laneZero c 0 ∗ laneZero c 1 ∗ laneZero c 2) := by
  unfold Pipeline.ownSems0
  rw [bigSep_univ_prod, bigSep_univ_eq_bigSepL [(0 : Fin 3), 1, 2] (by decide) (by decide), bigSepL_cons_cons, bigSepL_cons_cons, bigSepL_singleton,
    BI.bigSep_fin_two, BI.bigSep_fin_two, BI.bigSep_fin_two]
  rfl

/-! ## The proof data -/

/-- What the staging buffers hold after the body. -/
def afterW (c : Dev nD) : (w : Fin cfg0.W) → (cfg0.win w).block.Idx → Elt F (cfg0.win w).elt
  | 0 => inX m c
  | 1 => inW m c
  | 2 => inL m c
  | 3 => result (tab m) c

def dat0 (c : Dev nD) : Dat τ (Elt F) Unit ℕ UU ℕ cfg0 c where
  A w := V₁ m c (Proc.devRef .tc (Pipeline.arrRef spec0 w))
  after w _ := afterW m c w
  Φ t := if t.val = 0 then iprop(Xk m c ∗ scratch c ∗ ∃ r, prngReg c r)
    else iprop(Yk c ∗ (laneZero c 0 ∗ laneZero c 1 ∗ laneZero c 2) ∗ scratch c ∗ ∃ r, prngReg c r)
  q _ := fullShare
  owed t := if t.val = 0 then owed c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_first (c : Dev nD) : (dat0 m c).owed t0_0.castSucc = owed c := by
  show (if (t0_0.castSucc : Fin (cfg0.N + 1)).val = 0 then owed c else 0) = owed c; exact if_pos rfl
theorem owed_zero (c : Dev nD) : (pdats m 0 c).owed 0 = owed c := by
  show (if (0 : Fin (cfg0.N + 1)).val = 0 then owed c else 0) = owed c; exact if_pos rfl
theorem owed_last (c : Dev nD) : (pdats m 0 c).owed (Fin.last _) = 0 := by
  show (if (Fin.last cfg0.N).val = 0 then owed c else 0) = 0
  rw [Fin.val_last, if_neg (by rw [show cfg0.N = 1 from N_0]; decide)]

/-! ## A window's block is its whole buffer -/

theorem read_w0 (f : (main_arg0 : Ref sig .tc).ty.Contents (Elt F)) : (win0_0.blk t0_0).view.read (Elt F) f = f :=
  Memref.read_access_unit_zero (Elt F) main_arg0 (show (fun a => (win0_0.index t0_0) a * main_arg0.ty.shape.size a) = fun _ => 0 from
    funext fun a => by fin_cases a <;> decide) (fun a => by fin_cases a <;> decide) f
theorem read_w1 (f : (main_arg1 : Ref sig .tc).ty.Contents (Elt F)) : (win0_1.blk t0_0).view.read (Elt F) f = f :=
  Memref.read_access_unit_zero (Elt F) main_arg1 (show (fun a => (win0_1.index t0_0) a * main_arg1.ty.shape.size a) = fun _ => 0 from
    funext fun a => by fin_cases a <;> decide) (fun a => by fin_cases a <;> decide) f
theorem read_w2 (f : (main_v1 : Ref sig .tc).ty.Contents (Elt F)) : (win0_2.blk t0_0).view.read (Elt F) f = f :=
  Memref.read_access_unit_zero (Elt F) main_v1 (show (fun a => (win0_2.index t0_0) a * main_v1.ty.shape.size a) = fun _ => 0 from
    funext fun a => by fin_cases a <;> decide) (fun a => by fin_cases a <;> decide) f
theorem read_w3 (f : (main_v2 : Ref sig .tc).ty.Contents (Elt F)) : (win0_3.blk t0_0).view.read (Elt F) f = f :=
  Memref.read_access_unit_zero (Elt F) main_v2 (show (fun a => (win0_3.index t0_0) a * main_v2.ty.shape.size a) = fun _ => 0 from
    funext fun a => by fin_cases a; decide) (fun a => by fin_cases a; decide) f

theorem before_w0 (c : Dev nD) (d) : (dat0 m c).before 0 t0_0 d = inX m c := by
  unfold Dat.before; rw [if_pos (fetch0_0 _)]; exact read_w0 (F := F) _
theorem before_w1 (c : Dev nD) (d) : (dat0 m c).before 1 t0_0 d = inW m c := by
  unfold Dat.before; rw [if_pos (fetch0_1 _)]; exact read_w1 (F := F) _
theorem before_w2 (c : Dev nD) (d) : (dat0 m c).before 2 t0_0 d = inL m c := by
  unfold Dat.before; rw [if_pos (fetch0_2 _)]; exact read_w2 (F := F) (inL m c)

/-- The result array after the region. -/
theorem arr_out (c : Dev nD) : (dat0 m c).arrAt 3 cfg0.N = result (tab m) c := by
  have hw : ((cfg0.win 3).blk t0_0).view.read (Elt F) ((dat0 m c).arrAt 3 cfg0.N) = (dat0 m c).flushed 3 t0_0 := by
    rw [show cfg0.N = t0_0.val + 1 from rfl, (dat0 m c).arrAt_succ (3 : Fin 4) t0_0, if_pos (flush0_3 _)]
    exact View.read_write_univ _ _
  exact (read_w3 _).symm.trans (hw.trans (funext fun _ => rfl))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owns_w0 (c : Dev nD) (s) (X : (cc0_stg0_0 : Ref sig .tc).ty.Contents (Elt F)) :
    (owns (Ix := Unit) (Name := ℕ) (U := UU) (Lvl := ℕ) (c : Thread nD τ) (stage0_0 s) fullShare X : sProp 𝕄)
      = iprop(∃ f : Buf (Elt F) ((c : Thread nD τ).loc cc0_stg0_0), ⌜f = X⌝ ∗ held1 c cc0_stg0_0 f) := by
  obtain rfl := Subsingleton.elim s 0; exact owns_whole_eq c cc0_stg0_0 X
theorem owns_w1 (c : Dev nD) (s) (X : (cc0_stg1_0 : Ref sig .tc).ty.Contents (Elt F)) :
    (owns (Ix := Unit) (Name := ℕ) (U := UU) (Lvl := ℕ) (c : Thread nD τ) (stage0_1 s) fullShare X : sProp 𝕄)
      = iprop(∃ f : Buf (Elt F) ((c : Thread nD τ).loc cc0_stg1_0), ⌜f = X⌝ ∗ held1 c cc0_stg1_0 f) := by
  obtain rfl := Subsingleton.elim s 0; exact owns_whole_eq c cc0_stg1_0 X
theorem owns_w2 (c : Dev nD) (s) (X : (cc0_stg2_0 : Ref sig .tc).ty.Contents (Elt F)) :
    (owns (Ix := Unit) (Name := ℕ) (U := UU) (Lvl := ℕ) (c : Thread nD τ) (stage0_2 s) fullShare X : sProp 𝕄)
      = iprop(∃ f : Buf (Elt F) ((c : Thread nD τ).loc cc0_stg2_0), ⌜f = X⌝ ∗ held1 c cc0_stg2_0 f) := by
  obtain rfl := Subsingleton.elim s 0; exact owns_whole_eq c cc0_stg2_0 X
theorem owns_w3 (c : Dev nD) (s) (X : (cc0_stg3_0 : Ref sig .tc).ty.Contents (Elt F)) :
    (owns (Ix := Unit) (Name := ℕ) (U := UU) (Lvl := ℕ) (c : Thread nD τ) (stage0_3 s) fullShare X : sProp 𝕄)
      = iprop(∃ f : Buf (Elt F) ((c : Thread nD τ).loc cc0_stg3_0), ⌜f = X⌝ ∗ held1 c cc0_stg3_0 f) := by
  obtain rfl := Subsingleton.elim s 0; exact owns_whole_eq c cc0_stg3_0 X

theorem owesAt_intro (c : Dev nD) (t : Fin (cfg0.N + 1)) (O : CellTallies nD τ sig Unit) (h0 : (dat0 m c).owed t = O) :
    iprop(∃ W, owes (c : Thread nD τ) O W) ⊢ ((dat0 m c).owesAt () t : sProp 𝕄) := by
  unfold Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO

theorem not_idle : idle0 3 (grid0.coords t0_0) = false := by
  show (!(k0_cond2 (grid0.coords t0_0) == 1#1)) = false; rw [cond2]; rfl

set_option maxHeartbeats 1000000 in
/-- The body leads from the contents before it to the contents after it. -/
theorem body (c : Dev nD) : BodyObligation (dat0 (F := F) m c) (defs₀ (F := F)) 𝒱₀ () Set.univ := fun t => by
  obtain rfl := fin_N0 t
  rw [bigSep_W0, bigSep_W0]
  simp only [owns_w0, owns_w1, owns_w2, owns_w3]
  rw [show idle0 3 (grid0.coords t0_0) = false from not_idle]
  rw [show (dat0 m c).Φ t0_0.castSucc = iprop(Xk m c ∗ scratch c ∗ ∃ r, prngReg c r) from rfl,
    show (dat0 m c).Φ t0_0.succ = iprop(Yk c ∗ (laneZero c 0 ∗ laneZero c 1 ∗ laneZero c 2) ∗ scratch c ∗ ∃ r, prngReg c r) from rfl]
  unfold Xk opened invs
  iintro ⟨⟨⟨⟨%K, Hi, Hat, Ht⟩, Hcr, Hlev⟩, Hs, Hreg⟩, HO, ⟨%d0, %f0, %h0, H0⟩, ⟨%d1, %f1, %h1, H1⟩, ⟨%d2, %f2, %h2, H2⟩, ⟨%d3, %f3, %h3, H3⟩⟩
  rw [before_w0] at h0
  rw [before_w1] at h1
  rw [before_w2] at h2
  subst h0 h1 h2
  ihave HO := (owesAt_elim m c _ (owed c) (owed_first m c)) $$ HO
  have hb := body_run K (tab m) c (inX m c) (inW m c) (inL m c) rfl
  iapply (hb _)
  unfold bodyPre scratch credits
  icases Hi with ⟨Hib, Hi0, Hi1, Hi2⟩
  isplitr [Hreg]
  · isplitl [Hib Hi0 Hi1 Hi2 Hlev]
    · isplitl [Hib]; · iexact Hib
      isplitl [Hi0]; · iexact Hi0
      isplitl [Hi1]; · iexact Hi1
      isplitl [Hi2]; · iexact Hi2
      iexact Hlev
    isplitl [Hat]; · iexact Hat
    isplitl [Ht]; · iexact Ht
    isplitl [Hcr]; · iexact Hcr
    isplitl [HO]; · iexact HO
    isplitl [H0 H1 H2 H3]
    · isplitl [H0]; · iexact H0
      isplitl [H1]; · iexact H1
      isplitl [H2]; · iexact H2
      iexists f3; iexact H3
    iexact Hs
  unfold bodyPost
  iintro ⟨HO, ⟨Hb, Hz0, Hz1, Hz2⟩, ⟨H0, H1, H2, H3⟩, Hs⟩
  isplitr [HO H0 H1 H2 H3]
  · isplitl [Hb]; · unfold Yk; iexact Hb
    isplitl [Hz0 Hz1 Hz2]
    · unfold laneZero
      isplitl [Hz0]; · iexact Hz0
      isplitl [Hz1] <;> iassumption
    isplitl [Hs] <;> iassumption
  isplitl [HO]; · iapply (owesAt_intro m c t0_0.succ 0 (owed_last m c)); iexact HO
  isplitl [H0]; · iexists _; isplitr; · ipureintro; rfl
                  iexact H0
  isplitl [H1]; · iexists _; isplitr; · ipureintro; rfl
                  iexact H1
  isplitl [H2]; · iexists _; isplitr; · ipureintro; rfl
                  iexact H2
  iexists _; isplitr; · ipureintro; rfl
  iexact H3

/-! ## The region as a segment of the program -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The buffers that live for the whole program. -/
def bufs : Finset (DevRef τ sig) := (StableHlo.tcRefs τ sig).filter fun b => ¬ b.isScoped

/-- Those of them that no window stages. -/
def others : Finset (DevRef τ sig) := bufs \ Pipeline.arrRefs (τ := τ) spec0

theorem held_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) others W) :=
  StableHlo.held_sub_split (c : Thread nD τ) (by decide) W

theorem held_empty (c : Dev nD) (W : Valuation τ sig (Elt F)) : (StableHlo.held (c : Thread nD τ) ∅ W : sProp 𝕄) = BI.emp := by
  unfold StableHlo.held; exact BI.bigSep_empty

theorem hostOps_sub : ∀ op ∈ (hostOps0 : List (HloOp τ sig (Elt F))), op.bufs ⊆ bufs := fun op h => by
  simp only [List.mem_singleton] at h; subst h
  show ({Proc.devRef .tc main_arg2, Proc.devRef .tc main_v1} : Finset (DevRef τ sig)) ⊆ bufs; decide
theorem hostOps_fresh : ∀ op ∈ (hostOps0 : List (HloOp τ sig (Elt F))), op.fresh = ∅ := fun op h => by
  simp only [List.mem_singleton] at h; subst h; rfl

/-- What rides beside the buffers up to the call. -/
def R (c : Dev nD) : sProp 𝕄 := iprop(Tk m c ∗ (∃ r, prngReg c r) ∗ ∃ W, owes (c : Thread nD τ) (owed c) W)

/-- The reshape of the labels. -/
def seg : ℍ := Pipeline.HostSeg.ofOps _ _ _ _ _ bufs hostOps0 hostOps_sub hostOps_fresh (V₀ m) (R m)

/-- One direction's two semaphores are opened. -/
theorem lane_open (K : GSem nD τ sig → ℕ) (c : Dev nD) (d : Fin 3) :
    iprop(laneInv K (tab m) c d ∗ laneOpen c d ∗ laneZero c d) ⊢ (|={Set.univ}=> laneAt c d : sProp 𝕄) := by
  unfold laneInv laneOpen laneZero laneAt
  iintro ⟨⟨-, #HIs, #HIr, -, -⟩, ⟨HoS, HoV⟩, HzS, HzV⟩
  imod (Rounds.cell_open ER (rd (tab m)) (g := sendCell c d) (Set.mem_univ (K (sendCell c d)))) $$ [HoS HzS] with ⟨HatS, #HrS⟩
  · isplitr; · iexact HIs
    isplitl [HoS] <;> iassumption
  imod (Rounds.cell_open ER (rd (tab m)) (g := recvCell c d) (Set.mem_univ (K (recvCell c d)))) $$ [HoV HzV] with ⟨HatV, #HrV⟩
  · isplitr; · iexact HIr
    isplitl [HoV] <;> iassumption
  imodintro
  isplitr; · iexact HrS
  isplitr; · iexact HrV
  isplitl [HatS] <;> iassumption

theorem hopen (c : Dev nD) : iprop(Tk m c ∗ Pipeline.ownSems0 osem c ∗ levAts L lv) ⊢ (|={Set.univ}=> Xk m c : sProp 𝕄) := by
  rw [ownSems_eq]
  unfold Tk Xk ghost
  iintro ⟨⟨⟨%K, #Hi, ⟨HaB, Ho0, Ho1, Ho2⟩, Ht⟩, Hcr⟩, ⟨Hz0, Hz1, Hz2⟩, Hlev⟩
  unfold invs
  icases Hi with ⟨#Hib, #Hi0, #Hi1, #Hi2⟩
  imod (lane_open m K c 0) $$ [Ho0 Hz0] with Ha0
  · isplitr; · iexact Hi0
    isplitl [Ho0] <;> iassumption
  imod (lane_open m K c 1) $$ [Ho1 Hz1] with Ha1
  · isplitr; · iexact Hi1
    isplitl [Ho1] <;> iassumption
  imod (lane_open m K c 2) $$ [Ho2 Hz2] with Ha2
  · isplitr; · iexact Hi2
    isplitl [Ho2] <;> iassumption
  imodintro
  isplitr [Hcr Hlev]
  · iexists K; unfold opened invs
    isplitr
    · isplitr; · iexact Hib
      isplitr; · iexact Hi0
      isplitr; · iexact Hi1
      iexact Hi2
    isplitr [Ht]
    · isplitl [HaB]; · iexact HaB
      isplitl [Ha0]; · iexact Ha0
      isplitl [Ha1] <;> iassumption
    iexact Ht
  isplitl [Hcr] <;> iassumption

theorem scopedRest_eq (c : Dev nD) : (Pipeline.scopedRest (Ix := Unit) (Name := ℕ) (U := UU) (Lvl := ℕ) (Val := Elt F)
    (Pipeline.pin (pcfgs (F := F)) adm 0).spec c : sProp 𝕄) = scratch c := scopedRest0_eq c

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ scratch c ∗ ∃ r, prngReg c r) from rfl, scopedRest_eq]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop(Yk c ∗ (laneZero c 0 ∗ laneZero c 1 ∗ laneZero c 2) ∗ scratch c ∗ ∃ r, prngReg c r) from rfl,
    scopedRest_eq, ownSems_eq, held_empty]
  iintro ⟨HY, Hz, Hs, Hp⟩
  isplitl [Hs]; · iexact Hs
  isplitl [Hp]; · iexact Hp
  isplitr; · iempintro
  isplitl [Hz] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then owed c else 0 := rfl
  rw [e] at h
  split at h
  · exact owed_cut h
  · exact absurd h (Nat.lt_irrefl 0)

/-- The staging semaphores are of no role in the protocol. -/
theorem stage_lv : ∀ (w : Fin 4) (s : Fin (spec0 w).nbuf), role (.dma ((spec0 w).sem s)) = .none := by decide +kernel

/-- The arrays before and after the region. -/
theorem arr_before (c : Dev nD) (w : Fin 4) : (pdats m 0 c).arrAt w 0 = V₁ m c (Proc.devRef .tc (Pipeline.arrRef spec0 w)) := rfl
theorem arr_after (c : Dev nD) (w : Fin 4) :
    (pdats m 0 c).arrAt w (Pipeline.pin (pcfgs (F := F)) adm 0).N = V₂ m c (Proc.devRef .tc (Pipeline.arrRef spec0 w)) := by
  fin_cases w
  · exact ((dat0 m c).arrAt_in 0 rfl _).trans (V₂_ne m c (b := Proc.devRef .tc main_arg0) (by decide)).symm
  · exact ((dat0 m c).arrAt_in 1 rfl _).trans (V₂_ne m c (b := Proc.devRef .tc main_arg1) (by decide)).symm
  · exact ((dat0 m c).arrAt_in 2 rfl _).trans (V₂_ne m c (b := Proc.devRef .tc main_v1) (by decide)).symm
  · exact (arr_out m c).trans (V₂_out m c).symm

set_option backward.isDefEq.respectTransparency.types false in
/-- The call. -/
def reg : ℝ𝕊 0 :=
  Pipeline.RegionSeg.ofTalk (pcfgs (F := F)) adm (pdats m) () defs₀ 𝒱₀ L lv 0 osem (by decide +kernel : Pipeline.OwnSemFacts spec0 osem)
    ∅ others (Finset.empty_subset _) kit rfl (fun c => (body m c).loose)
    (fun _ => 0) owed (fun c => (owed_zero m c).trans (zero_add _).symm) (owed_last m) (fun _ => rfl) (fun c w => by fin_cases w <;> rfl)
    (V₁ m) (V₂ m) (fun c b hb => V₂_ne m c fun h => by subst h; revert hb; decide +kernel)
    (Tk m) Yk (Xk m) Yk (hopen m) (hin m) (hout m)
    (fun c => by iintro H; imodintro; iexact H)
    (fun _ => 0)
    ⟨fun c w s => mem_L c _ _, fun c w s => le_of_eq (by unfold lv; rw [show role _ = Role.none from stage_lv w s]), fun c t g i h => cut m c t g i h⟩
    (fun _ => iprop(emp))
    (arr_before m) (arr_after m)

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) others (V₁ m c) ∗ emp) ∗ Tk m c ∗ ∃ Wd, owes (c : Thread nD τ) (0 + owed c) Wd)
  rw [zero_add, held_split]
  unfold R
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [held_split]
  unfold Yk
  iintro ⟨Ha, -, ⟨Ho, -⟩, Hb, HO⟩
  isplitr [HO]
  · isplitr [Hb]
    · isplitl [Ha] <;> iassumption
    iexact Hb
  iexact HO

end Cert.Talk

end
-- ==== Proof.Launch.lean ====
/-
# The launch and the whole run

At launch every device gets its rights in the protocol: the invariants of all semaphores it uses, the tokens of the duties
it pays, and credit for what it will be paid. `run_main` is the run of the whole program: it ends, the arguments are
unchanged, the result buffer of device `c` holds `result (tab m) c`, and every semaphore is back at zero.
-/
module

public import proofs.«01_k».proof.Proof.Region
public import proofs.«01_k».proof.Proof.Gen.KernelIdeal.Frame
public import Idealize.ShloMosaic.Harness.Basic

@[expose] public section

set_option maxRecDepth 16384

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem osem_inj : Function.Injective osem := by decide +kernel
theorem osem_ne_bar (p : Fin 3 × Fin 2) : osem p ≠ .reg barS := fun h => by unfold osem at h; cases h

def barEmb : Dev nD ↪ GSem nD τ sig := ⟨fun c => barCell c, fun _ _ h => congrArg (fun g : GSem nD τ sig => g.1.1) h⟩
def copyEmb : Dev nD × (Fin 3 × Fin 2) ↪ GSem nD τ sig :=
  ⟨fun ck => ((ck.1 : Thread nD τ), osem ck.2), fun _ _ h =>
    Prod.ext (congrArg (fun g : GSem nD τ sig => g.1.1) h) (osem_inj (congrArg Prod.snd h))⟩

/-- The barriers of all devices, and their copy semaphores. -/
abbrev barCells : Finset (GSem nD τ sig) := Finset.univ.map barEmb
abbrev copyCells : Finset (GSem nD τ sig) := Finset.univ.map copyEmb

/-- A device's duties: in direction `d`, one on the barrier, one on the send and one on the receive semaphore. -/
def dutySem (p : Fin 3 × Fin 3) : SemLoc sig := if p.2 = 0 then .reg barS else if p.2 = 1 then .dma (sendS p.1) else .dma (recvS p.1)
def dutyName (p : Fin 3 × Fin 3) : Fin 3 := if p.2 = 0 then p.1.rev else 0
theorem duty_inj : Function.Injective (fun p : Fin 3 × Fin 3 => (dutySem p, dutyName p)) := by decide +kernel

def talkToks : Finset (GSem nD τ sig × ℕ × Fin 3) :=
  Finset.univ.map ⟨fun ck : Dev nD × (Fin 3 × Fin 3) => (((ck.1 : Thread nD τ), dutySem ck.2), 0, dutyName ck.2), fun _ _ h =>
    Prod.ext (congrArg (fun t : GSem nD τ sig × ℕ × Fin 3 => t.1.1.1) h)
      (duty_inj (Prod.ext (congrArg (fun t : GSem nD τ sig × ℕ × Fin 3 => t.1.2) h) (congrArg (fun t : GSem nD τ sig × ℕ × Fin 3 => t.2.2) h)))⟩

theorem disjoint_cells : Disjoint (barCells : Finset (GSem nD τ sig)) copyCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ copyCells : Finset (GSem nD τ sig)) :=
  Finset.mem_union_left _ (Finset.mem_map_of_mem barEmb (Finset.mem_univ c))
theorem send_mem (c : Dev nD) (d : Fin 3) : sendCell c d ∈ (barCells ∪ copyCells : Finset (GSem nD τ sig)) :=
  Finset.mem_union_right _ (Finset.mem_map_of_mem copyEmb (Finset.mem_univ (c, (d, (0 : Fin 2)))))
theorem recv_mem (c : Dev nD) (d : Fin 3) : recvCell c d ∈ (barCells ∪ copyCells : Finset (GSem nD τ sig)) :=
  Finset.mem_union_right _ (Finset.mem_map_of_mem copyEmb (Finset.mem_univ (c, (d, (1 : Fin 2)))))

/-- The ghost element of the launch: the pipeline's part and the protocol's. -/
def u₀ : UU :=
  (initOf (Pipeline.cells (Pipeline.pin (pcfgs (F := F)) adm) cellOf_inj) (Pipeline.launchToks (Pipeline.pin (pcfgs (F := F)) adm) cellOf_inj),
    launchOf barCells copyCells talkToks)

/-- A resource parked on one device. -/
def parked (c₀ : Dev nD) (X : sProp 𝕄) (c : Dev nD) : sProp 𝕄 := if c = c₀ then X else iprop(emp)
theorem bigSep_parked (c₀ : Dev nD) (X : sProp 𝕄) : bigSep Finset.univ (parked c₀ X) = X := by
  rw [bigSep_univ_at _ c₀, bigSep_congr (s := Finset.univ.erase c₀) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked 0 (BI.own (ER (launchOf barCells copyCells talkToks)))

/-! ## What every device may consult, and what is its own -/

/-- All invariants under one naming, and that every barrier is in its first round. -/
def records (κ : GSem nD τ sig → ℕ) : sProp 𝕄 :=
  iprop((bigSep (barCells ∪ copyCells) fun g => cellInv ER (rd (tab m)) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ copyCells : Finset (GSem nD τ sig))) :
    (bigSep (barCells ∪ copyCells) fun g => (cellInv ER (rd (tab m)) (κ g) g : sProp 𝕄)) ⊢ cellInv ER (rd (tab m)) (κ g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))

theorem lane_records (κ : GSem nD τ sig → ℕ) (c : Dev nD) (d : Fin 3) : records m κ ⊢ laneInv κ (tab m) c d := by
  unfold records laneInv
  iintro ⟨#HI, #HR⟩
  isplitr; · iapply (inv_at m κ (bar_mem (peer c d))); iexact HI
  isplitr; · iapply (inv_at m κ (send_mem c d)); iexact HI
  isplitr; · iapply (inv_at m κ (recv_mem c d)); iexact HI
  isplitr; · iapply (inv_at m κ (recv_mem (peer c d) d)); iexact HI
  iapply (reached_at (F := F) (peer c d)); iexact HR

/-- What is device `c`'s own: its place at its barrier, the rights to open its copy semaphores, the tokens of its duties. -/
def own (c : Dev nD) : sProp 𝕄 :=
  iprop(atPos ER (barCell c) 0 ∅ 0 ∗ (laneOpen c 0 ∗ laneOpen c 1 ∗ laneOpen c 2) ∗ (laneToks c 0 ∗ laneToks c 1 ∗ laneToks c 2))

theorem ghost_intro (κ : GSem nD τ sig → ℕ) (c : Dev nD) : iprop(records m κ ∗ own c) ⊢ iprop(∃ K, ghost m K c) := by
  unfold own ghost invs
  iintro ⟨#HR, HaB, Ho, Ht⟩
  iexists κ
  isplitr
  · isplitr
    · unfold records
      icases HR with ⟨#HI, -⟩
      iapply (inv_at m κ (bar_mem c)); iexact HI
    isplitr; · iapply (lane_records m κ c 0); iexact HR
    isplitr; · iapply (lane_records m κ c 1); iexact HR
    iapply (lane_records m κ c 2); iexact HR
  isplitr [Ht]
  · isplitl [HaB] <;> iassumption
  iexact Ht

/-- The tokens of the duties on device `c`'s own semaphores, for direction `d`. -/
def cellToks (c : Dev nD) (d : Fin 3) : sProp 𝕄 :=
  iprop(dutyTok ER (barCell c) 0 d.rev ∗ dutyTok ER (sendCell c d) 0 0 ∗ dutyTok ER (recvCell c d) 0 0)

theorem toks_eq : bigSep talkToks (fun x => (dutyTok ER x.1 x.2.1 x.2.2 : sProp 𝕄))
    = bigSep Finset.univ fun c : Dev nD => iprop(cellToks c 0 ∗ cellToks c 1 ∗ cellToks c 2) := by
  unfold talkToks; rw [bigSep_map, bigSep_univ_prod]
  refine bigSep_congr fun c _ => ?_
  rw [bigSep_univ_prod, bigSep_univ_eq_bigSepL [(0 : Fin 3), 1, 2] (by decide) (by decide), bigSepL_cons_cons, bigSepL_cons_cons, bigSepL_singleton,
    bigSep_univ_eq_bigSepL [(0 : Fin 3), 1, 2] (by decide) (by decide), bigSep_univ_eq_bigSepL [(0 : Fin 3), 1, 2] (by decide) (by decide),
    bigSep_univ_eq_bigSepL [(0 : Fin 3), 1, 2] (by decide) (by decide)]
  rfl

/-- The barrier and receive tokens of direction `d` go to the devices that pay them. -/
theorem lane_around (d : Fin 3) :
    (bigSep Finset.univ fun c : Dev nD => (cellToks c d : sProp 𝕄)) = bigSep Finset.univ fun c : Dev nD => laneToks c d := by
  unfold cellToks laneToks
  rw [bigSep_sep', bigSep_sep', bigSep_sep', bigSep_sep', bigSep_univ_equiv (ring d) (fun c : Dev nD => (dutyTok ER (barCell c) 0 d.rev : sProp 𝕄)),
    bigSep_univ_equiv (ring d) (fun c : Dev nD => (dutyTok ER (recvCell c d) 0 0 : sProp 𝕄))]
  rfl

theorem toks_around :
    (bigSep Finset.univ fun c : Dev nD => (iprop(cellToks c 0 ∗ cellToks c 1 ∗ cellToks c 2) : sProp 𝕄))
      = bigSep Finset.univ fun c : Dev nD => iprop(laneToks c 0 ∗ laneToks c 1 ∗ laneToks c 2) := by
  rw [bigSep_sep', bigSep_sep', bigSep_sep', bigSep_sep', lane_around, lane_around, lane_around]

/-! ## The credit -/

theorem bar_ne_recv (c c' : Dev nD) (d : Fin 3) : barCell c ≠ recvCell c' d := fun h => by have := congrArg Prod.snd h; cases this

theorem peer_eq (q c : Dev nD) (d : Fin 3) : peer q d = c ↔ q = peer c d.rev :=
  ⟨fun h => by rw [← h, peer_back], fun h => by rw [h, peer_forth]⟩

theorem tally_bar (q c : Dev nD) (d : Fin 3) : tallyAt (barCell (peer q d)) () 1 (barCell c) () = if q = peer c d.rev then 1 else 0 := by
  rw [tallyAt_apply]
  refine if_congr ⟨fun h => (peer_eq q c d).mp (congrArg (fun g : GSem nD τ sig => g.1.1) h.1).symm, fun h => ⟨by rw [(peer_eq q c d).mpr h], rfl⟩⟩ rfl rfl
theorem tally_recv (q c : Dev nD) (d : Fin 3) : tallyAt (recvCell (peer q d) d) () N (recvCell c d) () = if q = peer c d.rev then N else 0 := by
  rw [tallyAt_apply]
  refine if_congr ⟨fun h => (peer_eq q c d).mp (congrArg (fun g : GSem nD τ sig => g.1.1) h.1).symm, fun h => ⟨by rw [(peer_eq q c d).mpr h], rfl⟩⟩ rfl rfl

theorem recv_ne (d e : Fin 3) (h : d ≠ e) : (SemLoc.dma (recvS d) : SemLoc sig) ≠ .dma (recvS e) := by revert d e; decide +kernel

/-- Nothing else is owed on these cells. -/
theorem tally_bar_recv (c c' : Dev nD) (d : Fin 3) (n : ℕ) : tallyAt (barCell c) () n (recvCell c' d) () = 0 := by
  rw [tallyAt_apply, if_neg fun h => bar_ne_recv _ _ _ h.1.symm]
theorem tally_recv_bar (c c' : Dev nD) (d : Fin 3) (n : ℕ) : tallyAt (recvCell c' d) () n (barCell c) () = 0 := by
  rw [tallyAt_apply, if_neg fun h => bar_ne_recv _ _ _ h.1]
theorem tally_recv_ne (c c' : Dev nD) (d e : Fin 3) (h : d ≠ e) (n : ℕ) : tallyAt (recvCell c' d) () n (recvCell c e) () = 0 := by
  rw [tallyAt_apply, if_neg fun h' => recv_ne d e h (congrArg Prod.snd h'.1).symm]

theorem owed_bar (q c : Dev nD) : owed q (barCell c) ()
    = (if q = peer c 0 then 1 else 0) + (if q = peer c 1 then 1 else 0) + (if q = peer c 2 then 1 else 0) := by
  unfold owed owedCopies
  simp only [Pi.add_apply, Finsupp.add_apply, tally_recv_bar, tally_bar, Pi.zero_apply, Finsupp.zero_apply, Nat.zero_add]
  rfl
theorem owed_recv (q c : Dev nD) (d : Fin 3) : owed q (recvCell c d) () = if q = peer c d.rev then N else 0 := by
  unfold owed owedCopies
  simp only [Pi.add_apply, Finsupp.add_apply, tally_bar_recv, Pi.zero_apply, Finsupp.zero_apply, Nat.zero_add, Nat.add_zero]
  fin_cases d
  · exact (congrArg₂ (· + ·) (congrArg₂ (· + ·) (tally_recv_ne c _ 2 0 (by decide) N) (tally_recv_ne c _ 1 0 (by decide) N)) (tally_recv q c 0)).trans (by simp)
  · exact (congrArg₂ (· + ·) (congrArg₂ (· + ·) (tally_recv_ne c _ 2 1 (by decide) N) (tally_recv q c 1)) (tally_recv_ne c _ 0 1 (by decide) N)).trans (by simp)
  · exact (congrArg₂ (· + ·) (congrArg₂ (· + ·) (tally_recv q c 2) (tally_recv_ne c _ 1 2 (by decide) N)) (tally_recv_ne c _ 0 2 (by decide) N)).trans (by simp)

theorem launch_bar (c : Dev nD) :
    tallyOn (barCell c) (launchCredit (Pipeline.owing owed) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun q _ => owed_bar q c, Finset.sum_add_distrib, Finset.sum_add_distrib,
    Finset.sum_ite_eq' Finset.univ (peer c 0) fun _ => 1, Finset.sum_ite_eq' Finset.univ (peer c 1) fun _ => 1,
    Finset.sum_ite_eq' Finset.univ (peer c 2) fun _ => 1, if_pos (Finset.mem_univ _), if_pos (Finset.mem_univ _), if_pos (Finset.mem_univ _)]
theorem launch_recv (c : Dev nD) (d : Fin 3) :
    tallyOn (recvCell c d) (launchCredit (Pipeline.owing owed) 0 (recvCell c d)) = (tallyAt (recvCell c d) () N : CellTallies nD τ sig Unit) := by
  unfold tallyAt; refine congrArg _ (Finsupp.ext fun u => ?_); cases u
  rw [Pipeline.launchCredit_owing, Finsupp.single_eq_same, Finset.sum_congr rfl fun q _ => owed_recv q c d,
    Finset.sum_ite_eq' Finset.univ (peer c d.rev) fun _ => N, if_pos (Finset.mem_univ _)]

/-- The semaphores on which a device is paid by others. -/
def paid : List (SemLoc sig) := [.reg barS, .dma (recvS 0), .dma (recvS 1), .dma (recvS 2)]

theorem creds (c : Dev nD) : (Pipeline.launchCred owed c : sProp 𝕄) ⊢ credits c := by
  unfold Pipeline.launchCred credits
  refine BI.Entails.trans (bigSep_subset (t := paid.toFinset) (Finset.subset_univ _)) ?_
  rw [bigSep_eq_bigSepL_of_eq paid rfl (by decide +kernel)]
  unfold paid
  rw [bigSepL_cons_cons, bigSepL_cons_cons, bigSepL_cons_cons, bigSepL_singleton, launch_bar, launch_recv, launch_recv, launch_recv]
  exact .refl _

/-! ## The launch -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What a device holds at launch beside the protocol's state. -/
def bundle (c : Dev nD) : sProp 𝕄 :=
  iprop(StableHlo.held (c : Thread nD τ) bufs (V₀ m c) ∗ credits c ∗ owes (c : Thread nD τ) (owed c) ∅ ∗ ∃ r, prngReg c r)

theorem T₀_intro (κ : GSem nD τ sig → ℕ) (c : Dev nD) : iprop(records m κ ∗ (own c ∗ bundle m c)) ⊢ T₀ m c := by
  unfold bundle T₀ R Tk
  iintro ⟨#HR, Hl, Hh, Hcr, HO, Hp⟩
  isplitl [Hh]; · iexact Hh
  isplitl [Hl Hcr]
  · isplitl [Hl]
    · iapply (ghost_intro m κ c)
      isplitr; · iexact HR
      iexact Hl
    iexact Hcr
  isplitl [Hp]; · iexact Hp
  iexists ∅; iexact HO

theorem unscopedBufs_eq (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- One device's launch resources, sorted. -/
theorem sorted (c : Dev nD) : iprop(unscopedBufs c (fun b => m ((c : Thread nD τ).loc b)) ∗ unscopedSems0 c
        ∗ owes (c : Thread nD τ) (owed c) ∅ ∗ Pipeline.launchCred owed c ∗ prngReg c (ρ c) ∗ G c)
      ⊢ (iprop(bundle m c ∗ (semVal (barCell c) 0 ∗ G c)) : sProp 𝕄) := by
  rw [show unscopedBufs c (fun b => m ((c : Thread nD τ).loc b)) = StableHlo.held (c : Thread nD τ) bufs (V₀ m c) from unscopedBufs_eq c (V₀ m c),
    unscopedSems_eq]
  unfold bundle
  iintro ⟨Hh, Hus, HO, Hcr, Hp, HG⟩
  isplitr [Hus HG]
  · isplitl [Hh]; · iexact Hh
    isplitl [Hcr]; · iapply (creds (F := F) c); iexact Hcr
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (owed c) ∅ ∗ Pipeline.launchCred owed c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep copyCells (fun g => (openTok ER g : sProp 𝕄))
      ⊢ bigSep Finset.univ (fun c : Dev nD => iprop(laneOpen c 0 ∗ laneOpen c 1 ∗ laneOpen c 2)) :=
    Entails.of_eq (by
      rw [bigSep_map, bigSep_univ_prod]
      refine bigSep_congr fun c _ => ?_
      rw [bigSep_univ_prod, bigSep_univ_eq_bigSepL [(0 : Fin 3), 1, 2] (by decide) (by decide), bigSepL_cons_cons, bigSepL_cons_cons, bigSepL_singleton,
        BI.bigSep_fin_two, BI.bigSep_fin_two, BI.bigSep_fin_two]
      rfl)
  iintro ⟨H, -⟩
  ihave H' := (show (bigSep Finset.univ fun c : Dev nD => iprop(unscopedBufs c (fun b => m ((c : Thread nD τ).loc b)) ∗ unscopedSems0 c
          ∗ owes (c : Thread nD τ) (owed c) ∅ ∗ Pipeline.launchCred owed c ∗ prngReg c (ρ c) ∗ G c))
      ⊢ (bigSep Finset.univ fun c : Dev nD => iprop(bundle m c ∗ (semVal (barCell c) 0 ∗ G c)) : sProp 𝕄) from bigSep_mono fun c _ => sorted m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER (launchOf barCells copyCells talkToks)) from
    Entails.of_eq (bigSep_parked (F := F) 0 (BI.own (ER (launchOf barCells copyCells talkToks))))) $$ HG
  imod (Rounds.fund_launch ER (rd (tab m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(own c ∗ bundle m c)) fun c _ => T₀_intro m κ c)
  isplitr
  · unfold records
    isplitr; · iexact Hinv
    iexact Hr
  iapply Smoke.bigSep_pair
  isplitr [HB]
  · unfold own
    iapply Smoke.bigSep_pair; isplitl [Hat]; · iapply hat $$ Hat
    iapply Smoke.bigSep_pair; isplitl [Hopen]; · iapply hopen $$ Hopen
    iapply (Entails.of_eq (toks_around (F := F)))
    iapply (Entails.of_eq (toks_eq (F := F))) $$ Htok
  · iexact HB

/-! ## The run -/

def segs : List (Pipeline.Seg (pcfgs (F := F)) adm (pdats m) () defs₀ 𝒱₀ L lv) := [.host (seg m), .region (reg m)]

theorem main_eq (c : Dev nD) : main (F := F) c = Pipeline.Seg.run (segs m) :=
  Gen.main_segs adm (pdats m) () 𝒱₀ L lv (seg m) (reg m) rfl c

theorem unscoped_eq : ∀ sm : SemLoc sig, sm.isScoped .tc = false → sm = .reg barS := by decide +kernel

/-- The long-lived buffers one by one. -/
theorem bufs_eq (c : Dev nD) (W : Valuation τ sig (Elt F)) : (StableHlo.held (c : Thread nD τ) bufs W : sProp 𝕄)
    = iprop(held1 c main_arg0 (W (Proc.devRef .tc main_arg0)) ∗ held1 c main_arg1 (W (Proc.devRef .tc main_arg1))
      ∗ held1 c main_arg2 (W (Proc.devRef .tc main_arg2)) ∗ held1 c main_v1 (W (Proc.devRef .tc main_v1)) ∗ held1 c main_v2 (W (Proc.devRef .tc main_v2))) := by
  unfold StableHlo.held
  rw [bigSep_eq_bigSepL_of_eq [Proc.devRef .tc main_arg0, Proc.devRef .tc main_arg1, Proc.devRef .tc main_arg2, Proc.devRef .tc main_v1,
    Proc.devRef .tc main_v2] (by decide) (by decide)]
  rfl

/-- What is known of the final state on device `c`. -/
def Final (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v2) = result (tab m) c

/-- The call leaves the arguments as they were. -/
theorem V₂_arg0 (c : Dev nD) : V₂ m c (Proc.devRef .tc main_arg0) = m ((c : Thread nD τ).loc main_arg0) :=
  (V₂_ne m c (by decide)).trans (V_main_arg0 m c)
theorem V₂_arg1 (c : Dev nD) : V₂ m c (Proc.devRef .tc main_arg1) = m ((c : Thread nD τ).loc main_arg1) :=
  (V₂_ne m c (by decide)).trans (V_main_arg1 m c)
theorem V₂_arg2 (c : Dev nD) : V₂ m c (Proc.devRef .tc main_arg2) = m ((c : Thread nD τ).loc main_arg2) :=
  (V₂_ne m c (by decide)).trans (V_main_arg2 m c)

set_option backward.isDefEq.respectTransparency.types false in
/-- From any memory with all semaphores at zero every execution of the program on all devices ends, with the arguments
    unchanged, the result of device `c` at `result (tab m) c`, and all semaphores at zero. -/
theorem run_main : θ_run (defs (F := F)) (onTc (τ := τ) (main (F := F))) (s₀ m ρ)
    (fun r => (∀ c : Dev nD, Final m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := ⟨fun c => .rfl, fun c => reg_pre m c, fun c => reg_post m c⟩)
    (hinit := init m ρ)
    (QY := fun c s => Final m c s ∧ s.sem (barCell c) = 0)
    (hfin := fun c s' => by
      dsimp only [Tₙ]; rw [bufs_eq, V₂_arg0, V₂_arg1, V₂_arg2, V₂_out]
      iintro ⟨⟨⟨H0, H1, H2, -, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩,
          by simpa using hb⟩
      iexact HSI)
    (hQ := fun s h hs => ⟨fun c => (h c).1,
      sem_eq_zero hs fun c sm hsm => by
        obtain rfl := unscoped_eq sm hsm
        exact (h c).2⟩)

end Cert.Talk

end
-- ==== Proof.Logits.lean ====
/-
# The mathematics of the loss

No program is named here. `logit X W t v` is the product of row `t` of `X` with column `v` of `W`; the loss of row `t` at
label `v` is `loss X W t v = log (∑ u, exp (logit X W t u)) - logit X W t v`. Three facts are proved of it: a sum over all
columns is the sum over four blocks of 4096 columns, taken from any block onwards around the ring; a sum that keeps only the
column of the label is that column's term; and for finite entries the logarithm of a sum of exponentials may be taken after
the row's maximum is subtracted.
-/
module

public import Idealize.ShloMosaic.Lib.Pointwise

@[expose] public section

noncomputable section

namespace Cert.Loss

open Idealize.ShloMosaic

/-- The product of row `t` of `X` with column `v` of `W`. -/
def logit {N : ℕ} (X : (⟨2, ![256, 512]⟩ : Shape).Idx → EReal) (W : (⟨2, ![512, N]⟩ : Shape).Idx → EReal) (t : Fin 256)
    (v : Fin N) : EReal := ∑ k : Fin 512, X (ix2 t k) * W (ix2 k v)

/-- The loss of row `t` when its label is `v`. -/
def loss (X : (⟨2, ![256, 512]⟩ : Shape).Idx → EReal) (W : (⟨2, ![512, 16384]⟩ : Shape).Idx → EReal) (t : Fin 256)
    (v : Fin 16384) : EReal := Ideal.log (∑ u : Fin 16384, Ideal.exp (logit X W t u)) - logit X W t v

/-! ## Sums over four blocks of columns -/

/-- Column `j` of block `y`. -/
def col (y : Fin 4) (j : Fin 4096) : Fin 16384 := ⟨y.val * 4096 + j.val, by omega⟩

/-- A sum over all columns, block by block, beginning with any block and going backwards around the ring of four. -/
theorem sum_blocks (f : Fin 16384 → EReal) (y : Fin 4) :
    (∑ j, f (col y j)) + (∑ j, f (col (y + 3) j)) + (∑ j, f (col (y + 2) j)) + (∑ j, f (col (y + 1) j)) = ∑ u, f u := by
  rw [Fin.sum_univ_tiles 4 4096 rfl f, Fin.sum_univ_four]
  have key : ∀ A : Fin 4 → EReal, A y + A (y + 3) + A (y + 2) + A (y + 1) = A 0 + A 1 + A 2 + A 3 := by
    intro A
    fin_cases y
    · show A 0 + A 3 + A 2 + A 1 = _; ac_rfl
    · show A 1 + A 0 + A 3 + A 2 = _; ac_rfl
    · show A 2 + A 1 + A 0 + A 3 = _; ac_rfl
    · show A 3 + A 2 + A 1 + A 0 = _; ac_rfl
  exact key fun y => ∑ j, f (col y j)

/-- A sum that keeps one column and puts zero for the others is that column's term. -/
theorem sum_pick (f : Fin 16384 → EReal) (v : Fin 16384) : (∑ u, if u = v then f u else 0) = f v := by
  rw [Finset.sum_ite_eq' Finset.univ v f, if_pos (Finset.mem_univ _)]

/-! ## Finite values -/

/-- A finite sum of real numbers is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Products of finite rows and columns are finite. -/
theorem logit_real {N : ℕ} (X : (⟨2, ![256, 512]⟩ : Shape).Idx → EReal) (W : (⟨2, ![512, N]⟩ : Shape).Idx → EReal)
    (hX : ∀ i, ∃ r : ℝ, X i = r) (hW : ∀ i, ∃ r : ℝ, W i = r) (t : Fin 256) (v : Fin N) : ∃ r : ℝ, logit X W t v = r := by
  choose x hx using hX
  choose w hw using hW
  refine ⟨∑ k : Fin 512, x (ix2 t k) * w (ix2 k v), ?_⟩
  unfold logit
  rw [← coe_sum]
  exact Finset.sum_congr rfl fun k _ => by rw [hx, hw, EReal.coe_mul]

/-- The maximum of a nonempty family of real numbers, taken from minus infinity, is real. -/
theorem max_real {n : ℕ} (hn : 0 < n) (L : Fin n → EReal) (hL : ∀ v, ∃ r : ℝ, L v = r) :
    ∃ r : ℝ, Finset.fold max ⊥ L Finset.univ = r := by
  have hle : ∀ v, L v ≤ Finset.fold max ⊥ L Finset.univ := fun v =>
    (Finset.le_fold_max _).2 (.inr ⟨v, Finset.mem_univ _, le_rfl⟩)
  have hlt : Finset.fold max ⊥ L Finset.univ < ⊤ :=
    (Finset.fold_max_lt _).2 ⟨bot_lt_top, fun v _ => by obtain ⟨r, hr⟩ := hL v; rw [hr]; exact EReal.coe_lt_top r⟩
  have hgt : ⊥ < Finset.fold max ⊥ L Finset.univ := by
    obtain ⟨r, hr⟩ := hL ⟨0, hn⟩
    exact lt_of_lt_of_le (by rw [hr]; exact EReal.bot_lt_coe r) (hle ⟨0, hn⟩)
  exact ⟨_, (EReal.coe_toReal hlt.ne hgt.ne').symm⟩

theorem log_pos {r : ℝ} (h : 0 < r) : Ideal.log (r : EReal) = ((Real.log r : ℝ) : EReal) :=
  if_neg (not_le.2 h)

/-- For real numbers the logarithm of the sum of their exponentials is any real `a` plus the logarithm of the sum of the
    exponentials of the numbers less `a`. -/
theorem log_sum_exp {n : ℕ} (hn : 0 < n) (L : Fin n → EReal) (hL : ∀ v, ∃ r : ℝ, L v = r) (a : ℝ) :
    (a : EReal) + Ideal.log (∑ v, Ideal.exp (L v - a)) = Ideal.log (∑ v, Ideal.exp (L v)) := by
  choose l hl using hL
  have e₁ : (∑ v, Ideal.exp (L v)) = ((∑ v, Real.exp (l v) : ℝ) : EReal) := by
    rw [← coe_sum]
    exact Finset.sum_congr rfl fun v _ => by rw [hl]; rfl
  have e₂ : (∑ v, Ideal.exp (L v - a)) = ((∑ v, Real.exp (l v - a) : ℝ) : EReal) := by
    rw [← coe_sum]
    exact Finset.sum_congr rfl fun v _ => by rw [hl, ← EReal.coe_sub]; rfl
  have hne : (Finset.univ : Finset (Fin n)).Nonempty := ⟨⟨0, hn⟩, Finset.mem_univ _⟩
  have p₁ : 0 < ∑ v, Real.exp (l v) := Finset.sum_pos (fun v _ => Real.exp_pos _) hne
  have p₂ : 0 < ∑ v, Real.exp (l v - a) := Finset.sum_pos (fun v _ => Real.exp_pos _) hne
  rw [e₁, e₂, log_pos p₁, log_pos p₂, ← EReal.coe_add]
  refine congrArg _ ?_
  have h : ∑ v, Real.exp (l v) = Real.exp a * ∑ v, Real.exp (l v - a) := by
    rw [Finset.mul_sum]
    exact Finset.sum_congr rfl fun v _ => by rw [← Real.exp_add]; congr 1; ring
  rw [h, Real.log_mul (Real.exp_pos a).ne' p₂.ne', Real.log_exp]

/-- The loss as it is computed with the maximum of the row's products subtracted first. -/
theorem loss_shifted (X : (⟨2, ![256, 512]⟩ : Shape).Idx → EReal) (W : (⟨2, ![512, 16384]⟩ : Shape).Idx → EReal)
    (hX : ∀ i, ∃ r : ℝ, X i = r) (hW : ∀ i, ∃ r : ℝ, W i = r) (t : Fin 256) (v : Fin 16384) :
    (Finset.fold max ⊥ (logit X W t) Finset.univ
        + Ideal.log (∑ u, Ideal.exp (logit X W t u - Finset.fold max ⊥ (logit X W t) Finset.univ))) - logit X W t v
      = loss X W t v := by
  have hL := logit_real X W hX hW t
  obtain ⟨a, ha⟩ := max_real (by decide) (logit X W t) hL
  rw [ha, log_sum_exp (by decide) _ hL a]
  rfl

end Cert.Loss

end
-- ==== Proof.KernelValue.lean ====
/-
# What the kernel computes

The 4×128 table a device sends, element by element: row `t` of the input is place `(t / 128, t % 128)` of a 2×128 half of it.
The upper half holds the sums of the exponentials of the row's products with the device's block of columns, the lower half
the product with the label's column, or zero if another block has it. The sum of the four devices' tables is the sum over all
columns, so what every device stores is the loss of each row at its label (`result_at`).
-/
module

public import proofs.«01_k».proof.Proof.Body
public import proofs.«01_k».proof.Proof.Logits
public import Idealize.ShloMosaic.Lib.WritesUnit

@[expose] public section

noncomputable section

namespace Cert.Talk

open Cert.KernelIdeal Cert.KernelIdeal.Gen
open Idealize.ShloMosaic
open Cert.Loss

/-! ## The body's pure operations at an index -/

theorem pay8_at (B : Vec Ideal S512x4096 .bf16) (X : Vec Ideal S256x512 .bf16) (t : Fin 256) (j : Fin 4096) :
    k0_pay8 (F := Ideal) B X (ix2 t j) = logit X B t j := by
  pointwise [k0_pay8, dot_S256x512_S512x4096_S256x4096_1_0_0_1_n_n]
  rfl

theorem pay6_eq (X : Vec Ideal S256x512 .bf16) : k0_pay6 (F := Ideal) X = X := by
  unfold k0_pay6
  exact (shapeCast_id _ _).trans (shapeCast_id X _)

/-- The row at place `(a, b)` of a half of the table. -/
def row (a : Fin 2) (b : Fin 128) : Fin 256 := ⟨a.val * 128 + b.val, by omega⟩
/-- Place `(a, b)` of the upper half, as a place of the table, -/
def up (a : Fin 2) : Fin 4 := ⟨a.val, by omega⟩
/-- and of the lower half. -/
def down (a : Fin 2) : Fin 4 := ⟨2 + a.val, by omega⟩

theorem pay10_at (B : Vec Ideal S512x4096 .bf16) (X : Vec Ideal S256x512 .bf16) (z : Vec Ideal S2x128 .f32) (a : Fin 2) (b : Fin 128) :
    k0_pay10 (F := Ideal) B X z (ix2 a b) = z (ix2 a b) + ∑ j, Ideal.exp (logit X B (row a b) j) := by
  pointwise [k0_pay10]
  exact congrArg (z (ix2 a b) + ·) (Finset.sum_congr rfl fun j _ => congrArg Ideal.exp (pay8_at B X (row a b) j))

theorem pay7_at (i : S4x128.Idx) : k0_pay7 (F := Ideal) i = 0 := by
  idx_vars i
  pointwise [k0_pay7]

/-- The block of columns device `c` holds: its coordinate along the middle axis of the mesh. -/
def blk (c : Dev nD) : Fin 4 := ⟨c.val / 4 % 4, Nat.mod_lt _ (by decide)⟩

/-- The number of the first column of device `c`'s block, as the kernel computes it. -/
theorem first_col (c : Dev nD) :
    Scalar.addi (Scalar.muli (Scalar.remsi (Scalar.divsi c.word 4#32) 4#32) 4096#32) (Scalar.muli 0#32 4096#32)
      = BitVec.ofNat 32 ((blk c).val * 4096) := by
  revert c
  decide +kernel

/-- The kernel compares a column's number within the block with the label less the block's first column: equal exactly when
    the label is that column of the whole array. -/
theorem pick_iff (w : BitVec 32) (h : w.toNat < 16384) (y : Fin 4) (j : Fin 4096) :
    BitVec.ofNat 32 j.val = w - BitVec.ofNat 32 (y.val * 4096) ↔ col y j = ⟨w.toNat, h⟩ := by
  rw [Fin.ext_iff]
  show _ ↔ y.val * 4096 + j.val = w.toNat
  have := y.isLt
  have := j.isLt
  constructor
  · intro e
    have e := congrArg BitVec.toNat e
    simp only [BitVec.toNat_sub, BitVec.toNat_ofNat] at e
    omega
  · intro e
    refine BitVec.eq_of_toNat_eq ?_
    simp only [BitVec.toNat_sub, BitVec.toNat_ofNat]
    omega

theorem pay9_at (c : Dev nD) (B : Vec Ideal S512x4096 .bf16) (X : Vec Ideal S256x512 .bf16) (l : Vec Ideal S256x1 .i32) (t : Fin 256)
    (h : (l (ix2 t 0) : BitVec 32).toNat < 16384) :
    k0_pay9 (F := Ideal) (grid0.coords t0_0) c B X l (ix1 t)
      = ∑ j, if col (blk c) j = ⟨(l (ix2 t 0) : BitVec 32).toNat, h⟩ then logit X B t j else 0 := by
  pointwise [k0_pay9]
  refine Finset.sum_congr rfl fun j _ => ?_
  rw [pay8_at, first_col]
  by_cases e : col (blk c) j = ⟨(l (ix2 t 0) : BitVec 32).toNat, h⟩
  · rw [if_pos e]
    have e' := (pick_iff _ h _ _).2 e
    show Scalar.select (BitVec.ofBool (decide _)) _ _ = _
    rw [decide_eq_true (by exact e')]; rfl
  · rw [if_neg e]
    have e' := fun x => e ((pick_iff _ h _ _).1 x)
    show Scalar.select (BitVec.ofBool (decide _)) _ _ = _
    rw [decide_eq_false (by exact e')]; rfl

theorem pay2_at (v : Vec Ideal S256 .f32) (z : Vec Ideal S2x128 .f32) (a : Fin 2) (b : Fin 128) :
    k0_pay2 (F := Ideal) v z (ix2 a b) = z (ix2 a b) + v (ix1 (row a b)) := by
  pointwise [k0_pay2]
  rfl

/-- The number at place `(a, b)` of a table. -/
def entry (u : Table Ideal) (a : Fin 4) (b : Fin 128) : EReal := u (ix2 a b)

theorem pay4_at (u u₁ u₂ u₃ : Table Ideal) (a : Fin 4) (b : Fin 128) :
    k0_pay4 (F := Ideal) u (asSlot u₁) (asSlot u₂) (asSlot u₃) (ix2 a b)
      = entry u a b + entry u₁ a b + entry u₂ a b + entry u₃ a b := by
  pointwise [k0_pay4, asSlot]
  rfl

theorem pay3_at (u : FVec Ideal S4x128 .f32) (v : FVec Ideal S2x128 .f32) (a : Fin 2) (b : Fin 128) :
    k0_pay3 (F := Ideal) u v (ix1 (row a b)) = v (ix2 a b) - u (ix2 (down a) b) := by
  pointwise [k0_pay3]
  have h₁ : (row a b).val / 128 = a.val := by show (a.val * 128 + b.val) / 128 = _; omega
  have h₂ : (row a b).val % 128 = b.val := by show (a.val * 128 + b.val) % 128 = _; omega
  simp only [h₁, h₂]
  rfl

theorem pay5_at (u u₁ u₂ u₃ : Table Ideal) (a : Fin 2) (b : Fin 128) :
    k0_pay5 (F := Ideal) u (asSlot u₁) (asSlot u₂) (asSlot u₃) (ix2 a b)
      = Ideal.log (entry u (up a) b + entry u₁ (up a) b + entry u₂ (up a) b + entry u₃ (up a) b) := by
  pointwise [k0_pay5]
  exact congrArg Ideal.log (pay4_at u u₁ u₂ u₃ (up a) b)

/-! ## The table -/

/-- A store of a half of the table, read inside the half, -/
theorem half_hit (o : ℕ) (inb : ∀ a, (![o, 0] : Fin 2 → ℕ) a + S2x128.size a ≤ S4x128.size a) (f : Table Ideal)
    (w : FVec Ideal S2x128 .f32) (a : Fin 2) (b : Fin 128) (q : Fin 4) (hq : q.val = o + a.val) :
    (tabM.access (Rect.unit (s := S4x128) ![o, 0] S2x128.size inb) : View sig .tc _ _ _).write (Elt Ideal) f w Finset.univ (ix2 q b)
      = w (ix2 a b) :=
  View.read_writes_cons_unit_of_mem (View.whole cc0_scratch1) f inb w [] (ix2 q b) (ix2 a b) rfl
    (Fin.forall_fin_two.2 ⟨hq, (Nat.zero_add _).symm⟩)

/-- and read outside it. -/
theorem half_miss (o : ℕ) (inb : ∀ a, (![o, 0] : Fin 2 → ℕ) a + S2x128.size a ≤ S4x128.size a) (f : Table Ideal)
    (w : FVec Ideal S2x128 .f32) (q : Fin 4) (b : Fin 128) (hq : q.val < o ∨ o + 2 ≤ q.val) :
    (tabM.access (Rect.unit (s := S4x128) ![o, 0] S2x128.size inb) : View sig .tc _ _ _).write (Elt Ideal) f w Finset.univ (ix2 q b)
      = f (ix2 q b) :=
  View.read_writes_cons_unit_of_not_mem (View.whole cc0_scratch1) f inb w [] (ix2 q b) rfl 0 hq

/-- A load of a half of the table. -/
theorem half_load (o : ℕ) (inb : ∀ a, (![o, 0] : Fin 2 → ℕ) a + S2x128.size a ≤ S4x128.size a) (f : Table Ideal)
    (a : Fin 2) (b : Fin 128) (q : Fin 4) (hq : q.val = o + a.val) :
    tabM.view.readAt (Elt Ideal) (Rect.unit (s := S4x128) ![o, 0] S2x128.size inb).toLoadRect f (ix2 a b) = f (ix2 q b) := by
  show f _ = f _
  refine congrArg f (funext fun x => Fin.ext ?_)
  fin_cases x
  · show o + 1 * a.val = q.val; omega
  · show 0 + 1 * b.val = b.val; omega

theorem tableTop_up (X : Vec Ideal S256x512 .bf16) (B : Vec Ideal S512x4096 .bf16) (a : Fin 2) (b : Fin 128) :
    tableTop (F := Ideal) X B (ix2 (up a) b) = ∑ j, Ideal.exp (logit X B (row a b) j) := by
  unfold tableTop
  refine (half_hit 0 _ _ _ a b (up a) (Nat.zero_add _).symm).trans ?_
  have e := pay10_at B X (tabM.view.readAt (Elt Ideal) topR.toLoadRect (k0_pay7 (F := Ideal))) a b
  rw [pay6_eq]
  refine (congrFun (shapeCast_id _ _) _).trans (e.trans ?_)
  rw [half_load 0 _ _ a b (up a) (Nat.zero_add _).symm, pay7_at]
  exact zero_add _

theorem tableTop_down (X : Vec Ideal S256x512 .bf16) (B : Vec Ideal S512x4096 .bf16) (a : Fin 2) (b : Fin 128) :
    tableTop (F := Ideal) X B (ix2 (down a) b) = (0 : EReal) := by
  unfold tableTop
  exact (half_miss 0 _ _ _ (down a) b (.inr (by show 0 + 2 ≤ 2 + a.val; omega))).trans (pay7_at _)

/-- The upper half of device `c`'s table: the sums of the exponentials. -/
theorem table_up (c : Dev nD) (X : Vec Ideal S256x512 .bf16) (B : Vec Ideal S512x4096 .bf16) (l : Vec Ideal S256x1 .i32)
    (a : Fin 2) (b : Fin 128) : entry (table (F := Ideal) c X B l) (up a) b = ∑ j, Ideal.exp (logit X B (row a b) j) := by
  unfold entry table
  exact (half_miss 2 _ _ _ (up a) b (.inl (by show a.val < 2; omega))).trans (tableTop_up X B a b)

/-- The lower half of device `c`'s table: the product with the label's column, where the device has it. -/
theorem table_down (c : Dev nD) (X : Vec Ideal S256x512 .bf16) (B : Vec Ideal S512x4096 .bf16) (l : Vec Ideal S256x1 .i32)
    (a : Fin 2) (b : Fin 128) (h : (l (ix2 (row a b) 0) : BitVec 32).toNat < 16384) :
    entry (table (F := Ideal) c X B l) (down a) b
      = ∑ j, if col (blk c) j = ⟨(l (ix2 (row a b) 0) : BitVec 32).toNat, h⟩ then logit X B (row a b) j else 0 := by
  unfold entry table
  refine (half_hit 2 _ _ _ a b (down a) rfl).trans ?_
  rw [pay6_eq]
  refine (pay2_at _ _ a b).trans ?_
  rw [half_load 2 _ _ a b (down a) rfl, tableTop_down, pay9_at c B X l (row a b) h]
  exact zero_add _

/-! ## The sum over the four devices -/

/-- The blocks of the devices whose tables device `c` receives. -/
theorem blk_peer (c : Dev nD) : blk (peer c 2) = blk c + 3 ∧ blk (peer c 1) = blk c + 2 ∧ blk (peer c 0) = blk c + 1 := by
  revert c
  decide +kernel

/-- What device `c` stores at row `t` when every device's table is computed from the whole `X`, the whole `l` and its own
    block of columns of the whole `W`, and all labels are in range: the loss of row `t` at its label. -/
theorem result_at (X : Vec Ideal S256x512 .bf16) (W : (⟨2, ![512, 16384]⟩ : Shape).Idx → EReal) (l : Vec Ideal S256x1 .i32)
    (B : Dev nD → Vec Ideal S512x4096 .bf16) (hB : ∀ c k j, B c (ix2 k j) = W (ix2 k (col (blk c) j)))
    (c : Dev nD) (t : Fin 256) (h : (l (ix2 t 0) : BitVec 32).toNat < 16384) :
    result (F := Ideal) (fun d => table (F := Ideal) d X (B d) l) c (ix1 t) = loss X W t ⟨(l (ix2 t 0) : BitVec 32).toNat, h⟩ := by
  obtain ⟨a, b, rfl⟩ : ∃ a b, t = row a b :=
    ⟨⟨t.val / 128, by omega⟩, ⟨t.val % 128, by omega⟩, Fin.ext (by show t.val = t.val / 128 * 128 + t.val % 128; omega)⟩
  have hl : ∀ d j, logit X (B d) (row a b) j = logit X W (row a b) (col (blk d) j) := fun d j =>
    Finset.sum_congr rfl fun k _ => by rw [hB]
  obtain ⟨p₂, p₁, p₀⟩ := blk_peer c
  unfold result
  refine (pay3_at _ _ a b).trans ?_
  rw [pay5_at, pay4_at]
  simp only [table_up, table_down _ _ _ _ _ _ h, hl, p₂, p₁, p₀]
  rw [sum_blocks (fun u => Ideal.exp (logit X W (row a b) u)),
    sum_blocks (fun u => if u = ⟨(l (ix2 (row a b) 0) : BitVec 32).toNat, h⟩ then logit X W (row a b) u else 0), sum_pick]
  rfl

end Cert.Talk

end
-- ==== Proof.RefValue.lean ====
/-
# What the reference computes

The reference's result, read at a row: the row's maximum, plus the logarithm of the sum of the exponentials of the row's
products less that maximum, less the product with the column of the row's label. For finite entries and a label in range it
is the loss of the row at its label (`value_at`).
-/
module

public import proofs.«01_k».proof.Proof.Gen.ReferenceIdeal.Run
public import proofs.«01_k».proof.Proof.Logits
public import Idealize.ShloMosaic.Lib.Quiescent

@[expose] public section

noncomputable section

namespace Cert.Ref

open Cert.ReferenceIdeal Cert.ReferenceIdeal.Gen
open Idealize.ShloMosaic Idealize.SL.Sem
open Cert.Loss

/-- The products of all rows with all columns. -/
abbrev products (X : FVec Ideal S256x512 .bf16) (W : FVec Ideal S512x16384 .bf16) : FVec Ideal S256x16384 .f32 :=
  Host.dotGeneral dot_S256x512_S512x16384_S256x16384_1_0_0_1_n_n none (extf .f32 X bitsLt_bf16_f32) (extf .f32 W bitsLt_bf16_f32)

theorem products_at (X : FVec Ideal S256x512 .bf16) (W : FVec Ideal S512x16384 .bf16) (t : Fin 256) (v : Fin 16384) :
    products X W (ix2 t v) = logit X W t v := by
  pointwise [products, dot_S256x512_S512x16384_S256x16384_1_0_0_1_n_n]
  rfl

/-- The float32 pattern 0xFF800000 denotes minus infinity. -/
theorem neg_inf_f32 : Ideal.ofBits .f32 0xFF800000#32 = ⊥ := by
  simp [Ideal.ofBits, Ideal.ieee]

/-- The maxima of the rows. -/
abbrev maxima (L : FVec Ideal S256x16384 .f32) : FVec Ideal S256 .f32 :=
  Host.reduce FloatOps.maximumf L (constant S_ .f32 0xFF800000#32) reducesTo_S256x16384_S256_d1 h_S_

theorem maxima_at (L : FVec Ideal S256x16384 .f32) (t : Fin 256) :
    maxima L (ix1 t) = Finset.fold max ⊥ (fun v => L (ix2 t v)) Finset.univ := by
  pointwise [maxima, neg_inf_f32]

/-- Per row, `M` plus the logarithm of the sum of the exponentials of the row less `M`. -/
abbrev logSums (L : FVec Ideal S256x16384 .f32) (M : FVec Ideal S256 .f32) : FVec Ideal S256 .f32 :=
  shapeCast S256 (addf (broadcastInDim S256x1 ![0] bcast_S256_S256x1_0 M) (Host.log (broadcastInDim S256x1 ![0] bcast_S256_S256x1_0
    (Host.reduceAdd (Host.exp (subf L (broadcastInDim S256x16384 ![0, 1] bcast_S256x1_S256x16384_0_1
      (broadcastInDim S256x1 ![0] bcast_S256_S256x1_0 M)))) (constant S_ .f32 0x00000000#32) reducesTo_S256x16384_S256_d1 h_S_))))
    shapeCasts_S256x1_S256

theorem logSums_at (L : FVec Ideal S256x16384 .f32) (M : FVec Ideal S256 .f32) (t : Fin 256) :
    logSums L M (ix1 t) = M (ix1 t) + Ideal.log (∑ v, Ideal.exp (L (ix2 t v) - M (ix1 t))) := by
  pointwise [logSums]

/-- Per row, the row's number and its label, each with the array's extent added if it is negative. -/
abbrev places (l : IVec S256 32) : IVec S256x2 32 :=
  concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩, ⟨S256x1, (broadcastInDim S256x1 ![0] bcast_S256_S256x1_0 (select (cmpi .slt l (broadcastInDim S256 ![] bcast_S_S256 (constantI S_ 32 0#32))) (addi l (broadcastInDim S256 ![] bcast_S_S256 (constantI S_ 32 16384#32))) l))⟩] concatenates_S256x1_S256x1_S256x2_d1

/-- A word that denotes a number below 16384 is not negative, so no extent is added to it. -/
theorem wrap_id (w n : BitVec 32) (h : w.toNat < 16384) :
    Scalar.select (IntOp.cmpi .slt w 0#32) (IntOp.addi w n) w = w := by
  have e : IntOp.cmpi .slt w 0#32 = 0#1 := by
    have hn : ¬ w.toInt < (0#32).toInt := by
      rw [show (0#32).toInt = 0 by decide]
      have := BitVec.toInt_eq_toNat_cond w
      split at this <;> omega
    unfold IntOp.cmpi
    simp only [BitVec.slt_eq_decide, decide_eq_false hn]
    rfl
  rw [e]; rfl

theorem places_row (l : IVec S256 32) (t : Fin 256) : (places l (ix2 t 0)).toNat = t.val := by
  have e : places l (ix2 t 0) = BitVec.ofNat 32 t.val := by
    pointwise [places]
    refine wrap_id _ _ ?_
    simp; omega
  rw [e]; simp; omega

theorem places_col (l : IVec S256 32) (t : Fin 256) (h : (l (ix1 t)).toNat < 16384) : places l (ix2 t 1) = l (ix1 t) := by
  pointwise [places]
  exact wrap_id _ _ h

/-- A gather of single elements by row and column, read at a row whose place lies in the array. -/
theorem gather_at (L : FVec Ideal S256x16384 .f32) (i : IVec S256x2 32) (t r : Fin 256) (v : Fin 16384)
    (hr : (i (ix2 t 0)).toNat = r.val) (hv : (i (ix2 t 1)).toNat = v.val) :
    Host.gather gather_S256x16384_S256x2_S256_n_01_n_n_01_1_11 L i (ix1 t) = L (ix2 r v) := by
  have key : ∀ (a : Fin 2) (q : Fin ((S256x16384).size a)), (i (ix2 t a)).toNat = q.val →
      (gather_S256x16384_S256x2_S256_n_01_n_n_01_1_11.start (ix1 t) i a
        + gather_S256x16384_S256x2_S256_n_01_n_n_01_1_11.batchCoord (ix1 t) a
        + gather_S256x16384_S256x2_S256_n_01_n_n_01_1_11.offCoord (ix1 t) a) = q.val := by
    intro a q hq
    rw [GatherDims.batchCoord_eq_zero _ _ _ List.not_mem_nil,
      GatherDims.offCoord_eq_zero _ _ _ (fun h => ((GatherDims.mem_sKept _ _).mp h).1 (by fin_cases a <;> decide))]
    simp only [Nat.add_zero]
    unfold GatherDims.start
    rw [dif_pos (show a ∈ gather_S256x16384_S256x2_S256_n_01_n_n_01_1_11.startIndexMap by fin_cases a <;> decide)]
    have hs : gather_S256x16384_S256x2_S256_n_01_n_n_01_1_11.siIdx (ix1 t)
        ⟨List.idxOf a gather_S256x16384_S256x2_S256_n_01_n_n_01_1_11.startIndexMap, List.idxOf_lt_length_iff.2 (by fin_cases a <;> decide)⟩
          = ix2 t a := by
      funext b; refine Fin.ext ?_
      fin_cases a <;> fin_cases b <;> rfl
    rw [hs]
    have hle : q.val ≤ S256x16384.size a - gather_S256x16384_S256x2_S256_n_01_n_n_01_1_11.sliceSizes a := by
      have := q.isLt
      fin_cases a
      · show q.val ≤ 255; change q.val < 256 at this; omega
      · show q.val ≤ 16383; change q.val < 16384 at this; omega
    have hsm : q.val < 16384 := by
      have := q.isLt
      fin_cases a
      · change q.val < 256 at this; omega
      · exact this
    have e : (i (ix2 t a)).toInt.toNat = q.val := by
      have := BitVec.toInt_eq_toNat_cond (i (ix2 t a))
      split at this <;> omega
    rw [e, Nat.min_eq_left hle]
  unfold Host.gather
  refine congrArg L (funext fun a => Fin.ext ?_)
  fin_cases a
  · exact key 0 r hr
  · exact key 1 v hv

/-- The reference's result as a function of its arguments. -/
abbrev value (X : FVec Ideal S256x512 .bf16) (W : FVec Ideal S512x16384 .bf16) (l : IVec S256 32) : FVec Ideal S256 .f32 :=
  subf (logSums (products X W) (maxima (products X W)))
    (Host.gather gather_S256x16384_S256x2_S256_n_01_n_n_01_1_11 (products X W) (places l))

theorem sub_at (u v : FVec Ideal S256 .f32) (i : S256.Idx) : subf u v i = u i - v i := rfl

/-- For finite entries and a label in range the reference's result at row `t` is the loss of the row at its label. -/
theorem value_at (X : FVec Ideal S256x512 .bf16) (W : FVec Ideal S512x16384 .bf16) (l : IVec S256 32)
    (hX : ∀ i, ∃ r : ℝ, X i = r) (hW : ∀ i, ∃ r : ℝ, W i = r) (t : Fin 256) (h : (l (ix1 t)).toNat < 16384) :
    value X W l (ix1 t) = loss X W t ⟨(l (ix1 t)).toNat, h⟩ := by
  have g := gather_at (products X W) (places l) t t ⟨_, h⟩ (places_row l t) (congrArg BitVec.toNat (places_col l t h))
  have s := logSums_at (products X W) (maxima (products X W)) t
  rw [maxima_at] at s
  simp only [products_at] at s g
  exact (sub_at _ _ _).trans ((congrArg₂ (· - ·) s g).trans (loss_shifted X W hX hW t ⟨_, h⟩))

/-- From any memory with all semaphores at zero every execution of the reference ends, with its result at `value` of its
    arguments, the arguments unchanged and all semaphores at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v28)
          = value (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨h, sem_eq_zero_of_no_sems (by decide) r.2⟩) (Value.run (F := Ideal) m ρ)

end Cert.Ref

end
-- ==== Proof.InRange.lean ====
/-
# The precondition, element by element

`Cert.Pre_in_range_KernelIdeal.fn` is one bit made of four: all entries of `x` are finite, all entries of the block of `W`
are, no label is negative, and no label is 16384 or more. `of_fn` reads them off at each index.
-/
module

public import proofs.«01_k».proof.Pre_in_range_KernelIdeal
public import proofs.«01_k».proof.Pre_in_range_ReferenceIdeal
public import Idealize.ShloMosaic.Lib.Pointwise
public import Idealize.ShloMosaic.Lib.ReduceAll

@[expose] public section

noncomputable section

namespace Cert.InRange

open Idealize.ShloMosaic

/-- The shapes the precondition's operations take on one device's blocks fit each other. -/
theorem facts : Cert.Pre_in_range_KernelIdeal.Facts where
  bcast_S_S256x512 := by decide
  reducesTo_S256x512_S_d0_1 := by decide
  h_S_ := by decide
  bcast_S_S512x4096 := by decide
  reducesTo_S512x4096_S_d0_1 := by decide
  bcast_S_S256 := by decide
  reducesTo_S256_S_d0 := by decide

/-- The shapes the precondition's operations take on the whole arrays fit each other. -/
theorem factsWhole : Cert.Pre_in_range_ReferenceIdeal.Facts where
  bcast_S_S256x512 := by decide
  reducesTo_S256x512_S_d0_1 := by decide
  h_S_ := by decide
  bcast_S_S512x16384 := by decide
  reducesTo_S512x16384_S_d0_1 := by decide
  bcast_S_S256 := by decide
  reducesTo_S256_S_d0 := by decide

/-- The bfloat16 pattern 0x7F80 denotes plus infinity. -/
theorem inf_bf16 : Ideal.ofBits .bf16 0x7F80#16 = ⊤ := by
  simp [Ideal.ofBits, Ideal.ieee]

/-- A value whose magnitude is below plus infinity is real. -/
theorem real_of_lt (a : EReal) (h : Ideal.cmp .olt (max a (-a)) (Ideal.ofBits .bf16 0x7F80#16) = 1#1) : ∃ r : ℝ, a = r := by
  rw [inf_bf16] at h
  have hlt : max a (-a) < ⊤ := by
    by_contra hn
    simp [Ideal.cmp, hn] at h
  induction a with
  | bot => simp at hlt
  | top => simp at hlt
  | coe r => exact ⟨r, rfl⟩

/-- A word that is at least 0 and below 16384 as a signed number denotes a number below 16384. -/
theorem label_lt (w : BitVec 32) (h₀ : IntOp.cmpi .sge w 0#32 = 1#1) (h₁ : IntOp.cmpi .slt w 16384#32 = 1#1) : w.toNat < 16384 := by
  have a₀ : (0#32).toInt ≤ w.toInt := by
    by_contra hn
    unfold IntOp.cmpi at h₀
    simp only [BitVec.sle_eq_decide, decide_eq_false hn] at h₀
    exact absurd h₀ (by decide)
  have a₁ : w.toInt < (16384#32).toInt := by
    by_contra hn
    unfold IntOp.cmpi at h₁
    simp only [BitVec.slt_eq_decide, decide_eq_false hn] at h₁
    exact absurd h₁ (by decide)
  rw [show (0#32).toInt = 0 by decide] at a₀
  rw [show (16384#32).toInt = 16384 by decide] at a₁
  have e := BitVec.toInt_eq_toNat_cond w
  have := w.isLt
  split at e <;> omega

open Cert.Pre_in_range_KernelIdeal in
/-- Under the precondition every entry of `x` and of the block of `W` is real, and every label lies between 0 and 16383. -/
theorem of_fn [Facts] (X : FVec Ideal S256x512 .bf16) (B : FVec Ideal S512x4096 .bf16) (l : IVec S256 32)
    (h : fn (F := Ideal) X B l = fun _ => 1#1) :
    (∀ i, ∃ r : ℝ, X i = r) ∧ (∀ i, ∃ r : ℝ, B i = r) ∧ ∀ i, (l i).toNat < 16384 := by
  have h := congrFun h ix0
  unfold fn fn_part1 at h
  obtain ⟨h, h₄⟩ := IntOp.andi_eq_one.1 h
  obtain ⟨h, h₃⟩ := IntOp.andi_eq_one.1 h
  obtain ⟨h₁, h₂⟩ := IntOp.andi_eq_one.1 h
  haveI : Subsingleton S_.Idx := ⟨fun a b => funext fun i => i.elim0⟩
  refine ⟨fun i => real_of_lt _ (Host.reduce_andi_all _ _ _ _ _ h₁ i), fun i => real_of_lt _ (Host.reduce_andi_all _ _ _ _ _ h₂ i), fun i => ?_⟩
  have g₃ := Host.reduce_andi_all _ _ _ _ _ h₃ i
  have g₄ := Host.reduce_andi_all _ _ _ _ _ h₄ i
  exact label_lt (l i) g₃ g₄

end Cert.InRange

end
-- ==== Proof.lean ====
/-
# The claims

The kernel's run is proved once, for any reading of the floats (Proof/Launch.lean): every execution ends, with the arguments
unchanged, all semaphores at zero and each device's result the value `Cert.Talk.result` of the four tables exchanged within
its group of four devices. The frames are that run with the value dropped. The algebraic claim takes the run over the
extended reals: the value is there the loss of each row at its label (Proof/KernelValue.lean), and for finite entries and
labels in range so is the reference's (Proof/RefValue.lean).
-/
module

public import proofs.«01_k».proof.Defs
public import proofs.«01_k».proof.Proof.Gen.Kernel
public import proofs.«01_k».proof.Proof.Launch
public import proofs.«01_k».proof.Proof.KernelValue
public import proofs.«01_k».proof.Proof.RefValue
public import proofs.«01_k».proof.Proof.InRange

@[expose] public section

noncomputable section

namespace Cert.Proof

open Idealize.ShloMosaic Idealize.SL.Sem
open Cert.Loss

/-! ## The frames -/

/-- The run with the value dropped, for any reading of the floats. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩)
    (Cert.Talk.run_main (F := F) m ρ)

/-- The two printings of the kernel have the same text, so at bit patterns the same table of bodies. -/
theorem bodies_eq : Cert.Kernel.defs₀ (F := Bits) = Cert.KernelIdeal.defs₀ (F := Bits) := by
  refine congrArg Defs.onTc (funext fun l => funext fun a => ?_)
  fin_cases l
  rfl

theorem defs_eq : Cert.Kernel.defs (F := Bits) = Cert.KernelIdeal.defs (F := Bits) := congrArg (Pipeline.defs _) bodies_eq

theorem frame_kernel : Cert.quiescent_Kernel := fun m ρ _ => by
  rw [defs_eq]
  exact frame (F := Bits) m ρ

theorem frame_ideal : Cert.quiescent_KernelIdeal := fun m ρ _ => frame (F := Ideal) m ρ

theorem frame_reference : Cert.quiescent_ReferenceIdeal := fun m ρ _ =>
  (θ_run Cert.ReferenceIdeal.defs _ _).mono (fun _ h => ⟨fun c => (h.1 c).2, h.2⟩) (Cert.Ref.run m ρ)

/-! ## What the kernel's devices read -/

section
open Cert.KernelIdeal Cert.KernelIdeal.Gen Cert.Talk

variable (m : (ℓ : Loc nD τ sig) → Buf (Elt Ideal) ℓ)

theorem inX_eq (c : Dev nD) : inX m c = m ((c.tc : Thread nD τ).loc main_arg0) := V_main_arg0 m c

theorem inW_eq (c : Dev nD) : inW m c = m ((c.tc : Thread nD τ).loc main_arg1) := V_main_arg1 m c

/-- The labels the kernel reads are the argument's, as a column. -/
theorem inL_at (c : Dev nD) (t : Fin 256) :
    inL m c (ix2 t 0) = (m ((c.tc : Thread nD τ).loc main_arg2) : IVec S256 32) (ix1 t) := by
  have e : inL m c = shapeCast S256x1 (m ((c.tc : Thread nD τ).loc main_arg2) : IVec S256 32) shapeCasts_S256_S256x1 := by
    unfold inL V₁
    after_results_simp <;> rfl
  rw [e]
  pointwise []

theorem mid_coord : ∀ c : Dev nD, Layout.meshLin [2, 4, 4] c.val [1] = c.val / 4 % 4 := by decide +kernel

/-- Device `c`'s block of `W`, element by element. -/
theorem block_at (W : (⟨2, ![512, 16384]⟩ : Shape).Idx → EReal) (c : Dev nD) (k : Fin 512) (j : Fin 4096) :
    (Layout.blockN ⟨2, ![512, 4096]⟩ ⟨2, ![512, 16384]⟩ (Layout.meshBlock [2, 4, 4] ![[], [1]] c) W :
        (⟨2, ![512, 4096]⟩ : Shape).Idx → EReal) (ix2 k j)
      = W (ix2 k (col (blk c) j)) := by
  rw [Layout.blockN_apply]
  refine congrArg W (funext fun a => Fin.ext ?_)
  rw [Layout.TilesN.idx_val]
  fin_cases a
  · exact (congrArg (· * 512 + k.val) (Layout.meshBlock_val _ _ _ _ _)).trans (by show 0 * 512 + k.val = k.val; omega)
  · exact congrArg (· * 4096 + j.val) ((Layout.meshBlock_val _ _ _ _ _).trans (mid_coord c))

/-- Every column of the whole `W` lies in some device's block. -/
theorem covers (v : Fin 16384) : ∃ (c : Dev nD) (j : Fin 4096), col (blk c) j = v :=
  ⟨⟨v.val / 4096 * 4, by show v.val / 4096 * 4 < 32; omega⟩, ⟨v.val % 4096, by omega⟩, Fin.ext (by
    show v.val / 4096 * 4 / 4 % 4 * 4096 + v.val % 4096 = v.val
    omega)⟩

end

/-! ## The equation -/

theorem algebraic : Cert.algebraic_KernelIdeal_ReferenceIdeal_pre_in_range_KernelIdeal
    (hPre_in_range_KernelIdeal := Cert.InRange.facts) := by
  intro m g m' g' hpre hin
  letI := Cert.InRange.facts
  have hp := fun c => Cert.InRange.of_fn _ _ _ (hpre c)
  obtain ⟨X, hX⟩ : ∃ X : FVec Ideal Cert.ReferenceIdeal.S256x512 .bf16, X = m' (((0 : Dev Cert.ReferenceIdeal.nD).tc : Thread Cert.ReferenceIdeal.nD Cert.ReferenceIdeal.τ).loc Cert.ReferenceIdeal.main_arg0) := ⟨_, rfl⟩
  obtain ⟨W, hW⟩ : ∃ W : FVec Ideal Cert.ReferenceIdeal.S512x16384 .bf16, W = m' (((0 : Dev Cert.ReferenceIdeal.nD).tc : Thread Cert.ReferenceIdeal.nD Cert.ReferenceIdeal.τ).loc Cert.ReferenceIdeal.main_arg1) := ⟨_, rfl⟩
  obtain ⟨l, hl⟩ : ∃ l : IVec Cert.ReferenceIdeal.S256 32, l = m' (((0 : Dev Cert.ReferenceIdeal.nD).tc : Thread Cert.ReferenceIdeal.nD Cert.ReferenceIdeal.τ).loc Cert.ReferenceIdeal.main_arg2) := ⟨_, rfl⟩
  rw [← hX, ← hW, ← hl] at hin
  have rX : ∀ i, ∃ r : ℝ, X i = r := fun i => by
    have := (hp 0).1 i
    rwa [(hin 0).1] at this
  have rW : ∀ i, ∃ r : ℝ, W i = r := fun i => by
    obtain ⟨k, v, rfl⟩ : ∃ (k : Fin 512) (v : Fin 16384), i = ix2 k v := ⟨i 0, i 1, funext fun a => by fin_cases a <;> rfl⟩
    obtain ⟨c, j, rfl⟩ := covers v
    have := (hp c).2.1 (ix2 k j)
    rwa [(hin c).2.1, block_at] at this
  have rl : ∀ t : Fin 256, (l (ix1 t)).toNat < 16384 := fun t => by
    have := (hp 0).2.2 (ix1 t)
    rwa [(hin 0).2.2] at this
  have eq : ∀ c, Cert.Talk.result (F := Ideal) (Cert.Talk.tab m) c = Cert.Ref.value X W l := fun c => by
    have ht : Cert.Talk.tab m = fun d => Cert.Talk.table (F := Ideal) d X (Cert.Talk.inW m d) (Cert.Talk.inL m 0) := funext fun d => by
      have hL : Cert.Talk.inL m d = Cert.Talk.inL m 0 := funext fun i => by
        obtain ⟨t, rfl⟩ : ∃ t : Fin 256, i = ix2 t 0 := ⟨i 0, funext fun a => by
          fin_cases a
          · rfl
          · exact Fin.ext (by have := (i 1).isLt; change (i 1).val < 1 at this; show (i 1).val = 0; omega)⟩
        rw [inL_at, inL_at, (hin d).2.2, (hin 0).2.2]
      unfold Cert.Talk.tab
      rw [inX_eq, (hin d).1, hL]
    have hlt : ∀ t, Cert.Talk.inL m 0 (ix2 t 0) = l (ix1 t) := fun t => by rw [inL_at, (hin 0).2.2]
    funext i
    obtain ⟨t, rfl⟩ : ∃ t : Fin 256, i = ix1 t := ⟨i 0, funext fun a => by fin_cases a; rfl⟩
    rw [ht]
    refine (Cert.Talk.result_at X W (Cert.Talk.inL m 0) (Cert.Talk.inW m) (fun d k j => ?_) c t (by rw [hlt]; exact rl t)).trans ?_
    · rw [inW_eq, (hin d).2.1, block_at]
    · rw [Cert.Ref.value_at X W l rX rW t (rl t)]
      simp only [hlt]
  refine ⟨Cert.Ref.value X W l, ?_, ?_⟩
  · exact (θ_run Cert.KernelIdeal.defs _ _).mono
      (fun r h c => ⟨(h.1 c).2.2.2.trans (eq c), (h.1 c).1, (h.1 c).2.1, (h.1 c).2.2.1⟩) (Cert.Talk.run_main (F := Ideal) m g)
  · refine (θ_run Cert.ReferenceIdeal.defs _ _).mono (fun r h => ?_) (Cert.Ref.run m' g')
    have := h.1 0
    rw [← hX, ← hW, ← hl] at this ⊢
    exact this

/-- Everything claimed. -/
theorem claim : Cert.Claim :=
  ⟨Cert.Kernel.Gen.facts, Cert.KernelIdeal.Gen.facts, Cert.ReferenceIdeal.Gen.facts, Cert.InRange.facts, Cert.InRange.factsWhole,
    frame_kernel, frame_ideal, fun m ρ _ => frame_ideal m ρ trivial, frame_reference, fun m ρ _ => frame_reference m ρ trivial, trivial, algebraic⟩

end Cert.Proof

end
